-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_spectrum [hPre_positive_spectrum : Cert.Pre_positive_spectrum.Facts] (m : (ℓ : Loc Cert.KernelIdeal.nD Cert.KernelIdeal.τ Cert.KernelIdeal.sig) → Buf (Elt Ideal) ℓ) : Prop :=
  ∀ c : Dev Cert.KernelIdeal.nD,
    (Cert.Pre_positive_spectrum.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_positive_spectrum.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_spectrum [hPre_positive_spectrum : Cert.Pre_positive_spectrum.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_spectrum.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_positive_spectrum.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_positive_spectrum [hKernelIdeal : Cert.KernelIdeal.Facts] [hPre_positive_spectrum : Cert.Pre_positive_spectrum.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_spectrum m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_positive_spectrum [hReferenceIdeal : Cert.ReferenceIdeal.Facts] [hPre_positive_spectrum : Cert.Pre_positive_spectrum.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_spectrum m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv49" .f32 0x3CA72F05#32 ((1 / 49 : ℝ) : EReal)

def algebraic_KernelIdeal_ReferenceIdeal_pre_positive_spectrum [hKernelIdeal : Cert.KernelIdeal.Facts] [hReferenceIdeal : Cert.ReferenceIdeal.Facts] [hPre_positive_spectrum : Cert.Pre_positive_spectrum.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_spectrum m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_positive_spectrum : Cert.Pre_positive_spectrum.Facts),
    quiescent_Kernel (hKernel := hKernel)
    ∧ quiescent_KernelIdeal (hKernelIdeal := hKernelIdeal)
    ∧ quiescent_KernelIdeal_pre_positive_spectrum (hKernelIdeal := hKernelIdeal) (hPre_positive_spectrum := hPre_positive_spectrum)
    ∧ quiescent_ReferenceIdeal (hReferenceIdeal := hReferenceIdeal)
    ∧ quiescent_ReferenceIdeal_pre_positive_spectrum (hReferenceIdeal := hReferenceIdeal) (hPre_positive_spectrum := hPre_positive_spectrum)
    ∧ preserves_Kernel_KernelIdeal
    ∧ algebraic_KernelIdeal_ReferenceIdeal_pre_positive_spectrum (hKernelIdeal := hKernelIdeal) (hReferenceIdeal := hReferenceIdeal) (hPre_positive_spectrum := hPre_positive_spectrum)
-- ==== Pre_positive_spectrum.lean ====
abbrev S24x1024x1152 : Shape := ⟨3, ![24, 1024, 1152]⟩
abbrev S24x1024x512 : Shape := ⟨3, ![24, 1024, 512]⟩
abbrev S24x1024x16 : Shape := ⟨3, ![24, 1024, 16]⟩
abbrev S24x1024 : Shape := ⟨2, ![24, 1024]⟩
abbrev S24x1152x576 : Shape := ⟨3, ![24, 1152, 576]⟩
abbrev S24x1152x18 : Shape := ⟨3, ![24, 1152, 18]⟩
abbrev S24x1152 : Shape := ⟨2, ![24, 1152]⟩
abbrev S_ : Shape := ⟨0, ![]⟩

class Facts : Prop where
  bcast_S_S24x1024 : S_.BroadcastsInDim S24x1024 (![] : Fin 0 → Fin S24x1024.rank)
  bcast_S_S24x1152 : S_.BroadcastsInDim S24x1152 (![] : Fin 0 → Fin S24x1152.rank)

variable [Facts]

def fn {F : FTy → Type} [FloatOps F] (main_arg0 : FVec F S24x1024x1152 .bf16) (main_arg1 : FVec F S24x1024x1152 .f32) (main_arg2 : IVec S24x1024x512 8) (main_arg3 : FVec F S24x1024x16 .f32) (main_arg4 : FVec F S24x1024 .f32) (main_arg5 : IVec S24x1152x576 8) (main_arg6 : FVec F S24x1152x18 .f32) (main_arg7 : FVec F S24x1152 .f32) : IVec S24x1024 1 × IVec S24x1152 1 :=
  let main_cst : FVec F S_ .f32 := constant S_ .f32 0x38D1B717#32
  let main_v0 : FVec F S24x1024 .f32 := broadcastInDim S24x1024 ![] bcast_S_S24x1024 main_cst
  let main_v1 : FVec F S24x1024 .f32 := addf main_arg4 main_v0
  let main_cst_0 : FVec F S_ .f32 := constant S_ .f32 0x00000000#32
  let main_v2 : FVec F S24x1024 .f32 := broadcastInDim S24x1024 ![] bcast_S_S24x1024 main_cst_0
  let main_v3 : IVec S24x1024 1 := cmpf .ogt main_v1 main_v2
  let main_cst_1 : FVec F S_ .f32 := constant S_ .f32 0x38D1B717#32
  let main_v4 : FVec F S24x1152 .f32 := broadcastInDim S24x1152 ![] bcast_S_S24x1152 main_cst_1
  let main_v5 : FVec F S24x1152 .f32 := addf main_arg7 main_v4
  let main_cst_2 : FVec F S_ .f32 := constant S_ .f32 0x00000000#32
  let main_v6 : FVec F S24x1152 .f32 := broadcastInDim S24x1152 ![] bcast_S_S24x1152 main_cst_2
  let main_v7 : IVec S24x1152 1 := cmpf .ogt main_v5 main_v6
  (main_v3, main_v7)
-- ==== Kernel.lean ====
abbrev S24x1024x1152 : Shape := ⟨3, ![24, 1024, 1152]⟩
abbrev S24x1024x512 : Shape := ⟨3, ![24, 1024, 512]⟩
abbrev S24x1024x16 : Shape := ⟨3, ![24, 1024, 16]⟩
abbrev S24x1024 : Shape := ⟨2, ![24, 1024]⟩
abbrev S24x1152x576 : Shape := ⟨3, ![24, 1152, 576]⟩
abbrev S24x1152x18 : Shape := ⟨3, ![24, 1152, 18]⟩
abbrev S24x1152 : Shape := ⟨2, ![24, 1152]⟩
abbrev S24x1x1024 : Shape := ⟨3, ![24, 1, 1024]⟩
abbrev S24x1x1152 : Shape := ⟨3, ![24, 1, 1152]⟩
abbrev S1x1024x1152 : Shape := ⟨3, ![1, 1024, 1152]⟩
abbrev S1x1024x512 : Shape := ⟨3, ![1, 1024, 512]⟩
abbrev S1x1024x16 : Shape := ⟨3, ![1, 1024, 16]⟩
abbrev S1x1x1024 : Shape := ⟨3, ![1, 1, 1024]⟩
abbrev S1x1152x576 : Shape := ⟨3, ![1, 1152, 576]⟩
abbrev S1x1152x18 : Shape := ⟨3, ![1, 1152, 18]⟩
abbrev S1x1x1152 : Shape := ⟨3, ![1, 1, 1152]⟩
abbrev S1024x1024 : Shape := ⟨2, ![1024, 1024]⟩
abbrev S1152x1152 : Shape := ⟨2, ![1152, 1152]⟩
abbrev S1152x1024 : Shape := ⟨2, ![1152, 1024]⟩
abbrev S1x128x16 : Shape := ⟨3, ![1, 128, 16]⟩
abbrev S128x16 : Shape := ⟨2, ![128, 16]⟩
abbrev S16x128 : Shape := ⟨2, ![16, 128]⟩
abbrev S1x128x128 : Shape := ⟨3, ![1, 128, 128]⟩
abbrev S128x128 : Shape := ⟨2, ![128, 128]⟩
abbrev S64x128 : Shape := ⟨2, ![64, 128]⟩
abbrev S1x128 : Shape := ⟨2, ![1, 128]⟩
abbrev S1x128x18 : Shape := ⟨3, ![1, 128, 18]⟩
abbrev S128x18 : Shape := ⟨2, ![128, 18]⟩
abbrev S18x128 : Shape := ⟨2, ![18, 128]⟩
abbrev S1x128x64 : Shape := ⟨3, ![1, 128, 64]⟩
abbrev S128x64 : Shape := ⟨2, ![128, 64]⟩
abbrev S256x1024 : Shape := ⟨2, ![256, 1024]⟩
abbrev S256x256 : Shape := ⟨2, ![256, 256]⟩
abbrev S512x1024 : Shape := ⟨2, ![512, 1024]⟩
abbrev S512x256 : Shape := ⟨2, ![512, 256]⟩
abbrev S768x1024 : Shape := ⟨2, ![768, 1024]⟩
abbrev S768x256 : Shape := ⟨2, ![768, 256]⟩
abbrev S256x512 : Shape := ⟨2, ![256, 512]⟩
abbrev S1024x256 : Shape := ⟨2, ![1024, 256]⟩
abbrev S256x768 : Shape := ⟨2, ![256, 768]⟩
abbrev S256x1152 : Shape := ⟨2, ![256, 1152]⟩
abbrev S512x1152 : Shape := ⟨2, ![512, 1152]⟩
abbrev S768x1152 : Shape := ⟨2, ![768, 1152]⟩
abbrev S1024x1152 : Shape := ⟨2, ![1024, 1152]⟩
abbrev S128x1152 : Shape := ⟨2, ![128, 1152]⟩
abbrev S1152x128 : Shape := ⟨2, ![1152, 128]⟩
abbrev S1024x128 : Shape := ⟨2, ![1024, 128]⟩
abbrev S128x1024 : Shape := ⟨2, ![128, 1024]⟩
abbrev S1024x512 : Shape := ⟨2, ![1024, 512]⟩
abbrev S1152x512 : Shape := ⟨2, ![1152, 512]⟩
abbrev S8x128 : Shape := ⟨2, ![8, 128]⟩
abbrev S1x64x1152 : Shape := ⟨3, ![1, 64, 1152]⟩
abbrev S64x1152 : Shape := ⟨2, ![64, 1152]⟩
abbrev S8x8x128 : Shape := ⟨3, ![8, 8, 128]⟩
abbrev S1x8x128 : Shape := ⟨3, ![1, 8, 128]⟩
abbrev S1 : Shape := ⟨1, ![1]⟩
abbrev S1x1x1 : Shape := ⟨3, ![1, 1, 1]⟩
abbrev S1x1024 : Shape := ⟨2, ![1, 1024]⟩
abbrev S1x1152 : Shape := ⟨2, ![1, 1152]⟩
abbrev S1x1024x128 : Shape := ⟨3, ![1, 1024, 128]⟩
abbrev S1x512 : Shape := ⟨2, ![1, 512]⟩
abbrev S512x512 : Shape := ⟨2, ![512, 512]⟩
abbrev S1x512x512 : Shape := ⟨3, ![1, 512, 512]⟩
abbrev S512x128 : Shape := ⟨2, ![512, 128]⟩
abbrev S64x8x128 : Shape := ⟨3, ![64, 8, 128]⟩
abbrev S1x512x128 : Shape := ⟨3, ![1, 512, 128]⟩

abbrev nBuf : Space → Nat
  | .hbm => 12
  | .vmem => 28
  | .smem => 0
  | _ => 0

abbrev bufTy : (tb : Table) → Fin (tcTables nBuf tb) → BufTy
  | .hbm, ⟨0, _⟩ => ⟨S24x1024x1152, .bf16⟩
  | .hbm, ⟨1, _⟩ => ⟨S24x1024x1152, .f32⟩
  | .hbm, ⟨2, _⟩ => ⟨S24x1024x512, .i8⟩
  | .hbm, ⟨3, _⟩ => ⟨S24x1024x16, .f32⟩
  | .hbm, ⟨4, _⟩ => ⟨S24x1024, .f32⟩
  | .hbm, ⟨5, _⟩ => ⟨S24x1152x576, .i8⟩
  | .hbm, ⟨6, _⟩ => ⟨S24x1152x18, .f32⟩
  | .hbm, ⟨7, _⟩ => ⟨S24x1152, .f32⟩
  | .hbm, ⟨8, _⟩ => ⟨S24x1x1024, .f32⟩
  | .hbm, ⟨9, _⟩ => ⟨S24x1x1152, .f32⟩
  | .hbm, ⟨10, _⟩ => ⟨S24x1024x1152, .f32⟩
  | .hbm, ⟨11, _⟩ => ⟨S24x1024x1152, .f32⟩
  | .local _ .vmem, ⟨0, _⟩ => ⟨S1x1024x1152, .bf16⟩
  | .local _ .vmem, ⟨1, _⟩ => ⟨S1x1024x1152, .bf16⟩
  | .local _ .vmem, ⟨2, _⟩ => ⟨S1x1024x1152, .f32⟩
  | .local _ .vmem, ⟨3, _⟩ => ⟨S1x1024x1152, .f32⟩
  | .local _ .vmem, ⟨4, _⟩ => ⟨S1x1024x512, .i8⟩
  | .local _ .vmem, ⟨5, _⟩ => ⟨S1x1024x512, .i8⟩
  | .local _ .vmem, ⟨6, _⟩ => ⟨S1x1024x16, .f32⟩
  | .local _ .vmem, ⟨7, _⟩ => ⟨S1x1024x16, .f32⟩
  | .local _ .vmem, ⟨8, _⟩ => ⟨S1x1x1024, .f32⟩
  | .local _ .vmem, ⟨9, _⟩ => ⟨S1x1x1024, .f32⟩
  | .local _ .vmem, ⟨10, _⟩ => ⟨S1x1152x576, .i8⟩
  | .local _ .vmem, ⟨11, _⟩ => ⟨S1x1152x576, .i8⟩
  | .local _ .vmem, ⟨12, _⟩ => ⟨S1x1152x18, .f32⟩
  | .local _ .vmem, ⟨13, _⟩ => ⟨S1x1152x18, .f32⟩
  | .local _ .vmem, ⟨14, _⟩ => ⟨S1x1x1152, .f32⟩
  | .local _ .vmem, ⟨15, _⟩ => ⟨S1x1x1152, .f32⟩
  | .local _ .vmem, ⟨16, _⟩ => ⟨S1x1024x1152, .f32⟩
  | .local _ .vmem, ⟨17, _⟩ => ⟨S1x1024x1152, .f32⟩
  | .local _ .vmem, ⟨18, _⟩ => ⟨S1x1024x1152, .f32⟩
  | .local _ .vmem, ⟨19, _⟩ => ⟨S1x1024x1152, .f32⟩
  | .local _ .vmem, ⟨20, _⟩ => ⟨S1024x1024, .bf16⟩
  | .local _ .vmem, ⟨21, _⟩ => ⟨S1152x1152, .bf16⟩
  | .local _ .vmem, ⟨22, _⟩ => ⟨S1024x1024, .bf16⟩
  | .local _ .vmem, ⟨23, _⟩ => ⟨S1152x1152, .bf16⟩
  | .local _ .vmem, ⟨24, _⟩ => ⟨S1024x1024, .bf16⟩
  | .local _ .vmem, ⟨25, _⟩ => ⟨S1152x1152, .bf16⟩
  | .local _ .vmem, ⟨26, _⟩ => ⟨S1152x1024, .bf16⟩
  | .local _ .vmem, ⟨27, _⟩ => ⟨S1152x1024, .bf16⟩
  | _, _ => ⟨S24x1024x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1152x576 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1152x18 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "inv49" => some ((1 / 49 : ℝ) : EReal)
  | _ => none
-- ==== ReferenceIdeal.lean ====
abbrev S24x1024x1152 : Shape := ⟨3, ![24, 1024, 1152]⟩
abbrev S24x1024x512 : Shape := ⟨3, ![24, 1024, 512]⟩
abbrev S24x1024x16 : Shape := ⟨3, ![24, 1024, 16]⟩
abbrev S24x1024 : Shape := ⟨2, ![24, 1024]⟩
abbrev S24x1152x576 : Shape := ⟨3, ![24, 1152, 576]⟩
abbrev S24x1152x18 : Shape := ⟨3, ![24, 1152, 18]⟩
abbrev S24x1152 : Shape := ⟨2, ![24, 1152]⟩
abbrev S_ : Shape := ⟨0, ![]⟩
abbrev S24x1024x1x512 : Shape := ⟨4, ![24, 1024, 1, 512]⟩
abbrev S24x1024x2x512 : Shape := ⟨4, ![24, 1024, 2, 512]⟩
abbrev S24x1024x1024 : Shape := ⟨3, ![24, 1024, 1024]⟩
abbrev S24x1024x16x64 : Shape := ⟨4, ![24, 1024, 16, 64]⟩
abbrev S24x1024x16x1 : Shape := ⟨4, ![24, 1024, 16, 1]⟩
abbrev S1024x1024 : Shape := ⟨2, ![1024, 1024]⟩
abbrev S1x1024x1024 : Shape := ⟨3, ![1, 1024, 1024]⟩
abbrev S24x1152x1x576 : Shape := ⟨4, ![24, 1152, 1, 576]⟩
abbrev S24x1152x2x576 : Shape := ⟨4, ![24, 1152, 2, 576]⟩
abbrev S24x1152x1152 : Shape := ⟨3, ![24, 1152, 1152]⟩
abbrev S24x1152x18x64 : Shape := ⟨4, ![24, 1152, 18, 64]⟩
abbrev S24x1152x18x1 : Shape := ⟨4, ![24, 1152, 18, 1]⟩
abbrev S1152x1152 : Shape := ⟨2, ![1152, 1152]⟩
abbrev S1x1152x1152 : Shape := ⟨3, ![1, 1152, 1152]⟩
abbrev S24x1024x1 : Shape := ⟨3, ![24, 1024, 1]⟩
abbrev S24x1x1152 : Shape := ⟨3, ![24, 1, 1152]⟩
abbrev S24 : Shape := ⟨1, ![24]⟩
abbrev S24x1x1 : Shape := ⟨3, ![24, 1, 1]⟩

abbrev nBuf : Space → Nat
  | .hbm => 163
  | .vmem => 0
  | .smem => 0
  | _ => 0

abbrev hbmTy0_0 (i : Nat) : BufTy := match i % 128 with
  | 0 => ⟨S24x1024x1152, .bf16⟩
  | 1 => ⟨S24x1024x1152, .f32⟩
  | 2 => ⟨S24x1024x512, .i8⟩
  | 3 => ⟨S24x1024x16, .f32⟩
  | 4 => ⟨S24x1024, .f32⟩
  | 5 => ⟨S24x1152x576, .i8⟩
  | 6 => ⟨S24x1152x18, .f32⟩
  | 7 => ⟨S24x1152, .f32⟩
  | 8 => ⟨S24x1024x512, .i32⟩
  | 9 => ⟨S_, .i32⟩
  | 10 => ⟨S24x1024x512, .i32⟩
  | 11 => ⟨S24x1024x512, .i32⟩
  | 12 => ⟨S_, .i32⟩
  | 13 => ⟨S24x1024x512, .i32⟩
  | 14 => ⟨S24x1024x512, .i1⟩
  | 15 => ⟨S_, .i32⟩
  | 16 => ⟨S24x1024x512, .i32⟩
  | 17 => ⟨S24x1024x512, .i32⟩
  | 18 => ⟨S24x1024x512, .i32⟩
  | 19 => ⟨S_, .i32⟩
  | 20 => ⟨S24x1024x512, .i32⟩
  | 21 => ⟨S24x1024x512, .i32⟩
  | 22 => ⟨S_, .i32⟩
  | 23 => ⟨S24x1024x512, .i32⟩
  | 24 => ⟨S24x1024x512, .i1⟩
  | 25 => ⟨S_, .i32⟩
  | 26 => ⟨S24x1024x512, .i32⟩
  | 27 => ⟨S24x1024x512, .i32⟩
  | 28 => ⟨S24x1024x512, .i32⟩
  | 29 => ⟨S24x1024x1x512, .i32⟩
  | 30 => ⟨S24x1024x1x512, .i32⟩
  | 31 => ⟨S24x1024x2x512, .i32⟩
  | 32 => ⟨S24x1024x1024, .i32⟩
  | 33 => ⟨S24x1024x1024, .f32⟩
  | 34 => ⟨S24x1024x16x64, .f32⟩
  | 35 => ⟨S24x1024x16x64, .f32⟩
  | 36 => ⟨S24x1024x16x64, .f32⟩
  | 37 => ⟨S_, .f32⟩
  | 38 => ⟨S24x1024x16x64, .f32⟩
  | 39 => ⟨S24x1024x16x64, .f32⟩
  | 40 => ⟨S24x1024x16x1, .f32⟩
  | 41 => ⟨S24x1024x16x64, .f32⟩
  | 42 => ⟨S24x1024x16x64, .f32⟩
  | 43 => ⟨S24x1024x1024, .f32⟩
  | 44 => ⟨S24x1024x1024, .bf16⟩
  | 45 => ⟨S24x1024x1024, .f32⟩
  | 46 => ⟨S1024x1024, .i32⟩
  | 47 => ⟨S1024x1024, .i32⟩
  | 48 => ⟨S_, .i32⟩
  | 49 => ⟨S1024x1024, .i32⟩
  | 50 => ⟨S1024x1024, .i32⟩
  | 51 => ⟨S1024x1024, .i1⟩
  | 52 => ⟨S1024x1024, .f32⟩
  | 53 => ⟨S1x1024x1024, .f32⟩
  | 54 => ⟨S24x1024x1024, .f32⟩
  | 55 => ⟨S24x1024x1024, .f32⟩
  | 56 => ⟨S24x1024x1024, .bf16⟩
  | 57 => ⟨S24x1024x1024, .f32⟩
  | 58 => ⟨S24x1024x1024, .f32⟩
  | 59 => ⟨S_, .f32⟩
  | 60 => ⟨S24x1024x1024, .f32⟩
  | 61 => ⟨S24x1024x1024, .f32⟩
  | 62 => ⟨S24x1024x1024, .f32⟩
  | 63 => ⟨S24x1024x1024, .bf16⟩
  | 64 => ⟨S_, .f32⟩
  | 65 => ⟨S24x1024, .f32⟩
  | 66 => ⟨S24x1024, .f32⟩
  | 67 => ⟨S_, .f32⟩
  | 68 => ⟨S24x1024, .f32⟩
  | 69 => ⟨S24x1024, .f32⟩
  | 70 => ⟨S24x1152x576, .i32⟩
  | 71 => ⟨S_, .i32⟩
  | 72 => ⟨S24x1152x576, .i32⟩
  | 73 => ⟨S24x1152x576, .i32⟩
  | 74 => ⟨S_, .i32⟩
  | 75 => ⟨S24x1152x576, .i32⟩
  | 76 => ⟨S24x1152x576, .i1⟩
  | 77 => ⟨S_, .i32⟩
  | 78 => ⟨S24x1152x576, .i32⟩
  | 79 => ⟨S24x1152x576, .i32⟩
  | 80 => ⟨S24x1152x576, .i32⟩
  | 81 => ⟨S_, .i32⟩
  | 82 => ⟨S24x1152x576, .i32⟩
  | 83 => ⟨S24x1152x576, .i32⟩
  | 84 => ⟨S_, .i32⟩
  | 85 => ⟨S24x1152x576, .i32⟩
  | 86 => ⟨S24x1152x576, .i1⟩
  | 87 => ⟨S_, .i32⟩
  | 88 => ⟨S24x1152x576, .i32⟩
  | 89 => ⟨S24x1152x576, .i32⟩
  | 90 => ⟨S24x1152x576, .i32⟩
  | 91 => ⟨S24x1152x1x576, .i32⟩
  | 92 => ⟨S24x1152x1x576, .i32⟩
  | 93 => ⟨S24x1152x2x576, .i32⟩
  | 94 => ⟨S24x1152x1152, .i32⟩
  | 95 => ⟨S24x1152x1152, .f32⟩
  | 96 => ⟨S24x1152x18x64, .f32⟩
  | 97 => ⟨S24x1152x18x64, .f32⟩
  | 98 => ⟨S24x1152x18x64, .f32⟩
  | 99 => ⟨S_, .f32⟩
  | 100 => ⟨S24x1152x18x64, .f32⟩
  | 101 => ⟨S24x1152x18x64, .f32⟩
  | 102 => ⟨S24x1152x18x1, .f32⟩
  | 103 => ⟨S24x1152x18x64, .f32⟩
  | 104 => ⟨S24x1152x18x64, .f32⟩
  | 105 => ⟨S24x1152x1152, .f32⟩
  | 106 => ⟨S24x1152x1152, .bf16⟩
  | 107 => ⟨S24x1152x1152, .f32⟩
  | 108 => ⟨S1152x1152, .i32⟩
  | 109 => ⟨S1152x1152, .i32⟩
  | 110 => ⟨S_, .i32⟩
  | 111 => ⟨S1152x1152, .i32⟩
  | 112 => ⟨S1152x1152, .i32⟩
  | 113 => ⟨S1152x1152, .i1⟩
  | 114 => ⟨S1152x1152, .f32⟩
  | 115 => ⟨S1x1152x1152, .f32⟩
  | 116 => ⟨S24x1152x1152, .f32⟩
  | 117 => ⟨S24x1152x1152, .f32⟩
  | 118 => ⟨S24x1152x1152, .bf16⟩
  | 119 => ⟨S24x1152x1152, .f32⟩
  | 120 => ⟨S24x1152x1152, .f32⟩
  | 121 => ⟨S_, .f32⟩
  | 122 => ⟨S24x1152x1152, .f32⟩
  | 123 => ⟨S24x1152x1152, .f32⟩
  | 124 => ⟨S24x1152x1152, .f32⟩
  | 125 => ⟨S24x1152x1152, .bf16⟩
  | 126 => ⟨S_, .f32⟩
  | 127 => ⟨S24x1152, .f32⟩
  | _ => ⟨S24x1024x1152, .bf16⟩

abbrev hbmTy0_1 (i : Nat) : BufTy := match i % 128 with
  | 0 => ⟨S24x1152, .f32⟩
  | 1 => ⟨S_, .f32⟩
  | 2 => ⟨S24x1152, .f32⟩
  | 3 => ⟨S24x1152, .f32⟩
  | 4 => ⟨S24x1024x1152, .f32⟩
  | 5 => ⟨S24x1024x1, .f32⟩
  | 6 => ⟨S24x1024x1152, .f32⟩
  | 7 => ⟨S24x1024x1152, .f32⟩
  | 8 => ⟨S24x1024x1152, .bf16⟩
  | 9 => ⟨S24x1024x1152, .f32⟩
  | 10 => ⟨S24x1x1152, .f32⟩
  | 11 => ⟨S24x1024x1152, .f32⟩
  | 12 => ⟨S24x1024x1152, .f32⟩
  | 13 => ⟨S24x1024x1152, .bf16⟩
  | 14 => ⟨S24x1024x1152, .f32⟩
  | 15 => ⟨S24x1024x1152, .bf16⟩
  | 16 => ⟨S24x1024x1152, .f32⟩
  | 17 => ⟨S24x1024x1152, .f32⟩
  | 18 => ⟨S24x1024x1152, .f32⟩
  | 19 => ⟨S_, .f32⟩
  | 20 => ⟨S24x1024x1152, .f32⟩
  | 21 => ⟨S24x1024x1152, .f32⟩
  | 22 => ⟨S24x1024x1152, .f32⟩
  | 23 => ⟨S24x1024x1152, .f32⟩
  | 24 => ⟨S_, .f32⟩
  | 25 => ⟨S24, .f32⟩
  | 26 => ⟨S24, .f32⟩
  | 27 => ⟨S24x1024x1152, .f32⟩
  | 28 => ⟨S_, .f32⟩
  | 29 => ⟨S24, .f32⟩
  | 30 => ⟨S24, .f32⟩
  | 31 => ⟨S24, .f32⟩
  | 32 => ⟨S24x1x1, .f32⟩
  | 33 => ⟨S24x1024x1152, .f32⟩
  | 34 => ⟨S24x1024x1152, .f32⟩
  | _ => ⟨S24x1024x1152, .bf16⟩

abbrev hbmTy (i : Nat) : BufTy := match i / 128 with
  | 0 => hbmTy0_0 i
  | 1 => hbmTy0_1 i
  | _ => ⟨S24x1024x1152, .bf16⟩

abbrev bufTy : (tb : Table) → Fin (tcTables nBuf tb) → BufTy
  | .hbm, ⟨i, _⟩ => hbmTy i
  | _, _ => ⟨S24x1024x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_15 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_16 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_17 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_18 : Ref sig .tc := ⟨.hbm, 126, rfl⟩
abbrev main_v98 : Ref sig .tc := ⟨.hbm, 127, rfl⟩
abbrev main_v99 : Ref sig .tc := ⟨.hbm, 128, rfl⟩
abbrev main_cst_19 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_20 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_21 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_22 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩

abbrev nD : Nat := 1
abbrev τ : Topo := Topo.v7x

variable {F : FTy → Type} [FloatOps F]
-- ==== Proof.Value.Spec.lean ====
/-
  The mathematics both programs compute for one element of the batch, over the extended reals: the decoded
  eigenbasis, its Björck step, the four contractions of the preconditioned gradient, the grafting ratio.
  Every matrix is a function of two coordinates; nothing here mentions a tile, a block or a buffer.
-/
module

public import Idealize.ShloMosaic.Lib.ValueIdx
public import Idealize.ShloMosaic.PureOps.Ideal.Laws

@[expose] public section

noncomputable section

open scoped BigOperators

namespace Shampoo

open Idealize.ShloMosaic

/-- The signed nibble `q` of a byte: the low one for `q = 0`, the high one otherwise, in 32 bits. -/
def nib (b : BitVec 8) (q : Nat) : BitVec 32 :=
  if q = 0 then IntOp.shrsi .vector (IntOp.shli .vector (b.setWidth 32) 28#32) 28#32
  else IntOp.shrsi .vector (IntOp.shli .vector (b.setWidth 32) 24#32) 28#32

/-- The signed square of a code. -/
def ssq (c : BitVec 32) : EReal := ((c.toInt : ℝ) : EReal) * max ((c.toInt : ℝ) : EReal) (-((c.toInt : ℝ) : EReal))

/-- The decoded value of column `c`, row `i`: codes of column `c` lie in byte `c % half`, in its nibble `c / half`;
    the scale is that of the row's group of 64 columns. -/
def dec {n half ng : Nat} (hn : n = 2 * half) (hg : n = 64 * ng) (codes : Fin n → Fin half → BitVec 8) (s : Fin n → Fin ng → EReal)
    (c i : Fin n) : EReal :=
  ssq (nib (codes i ⟨c.val % half, Nat.mod_lt _ (by have := c.isLt; omega)⟩) (c.val / half))
    * (s i ⟨c.val / 64, by have := c.isLt; omega⟩ * ((1 / 49 : ℝ) : EReal))

/-- One half, as both programs write it. -/
def half32 : EReal := Ideal.ofBits .f32 0x3F000000#32

variable {n r d : Nat}

/-- The Gram matrix of the columns less the identity. `v c i` is row `i` of column `c`. -/
def gramE (v : Fin n → Fin n → EReal) (a b : Fin n) : EReal := (∑ i, v a i * v b i) - (if a = b then 1 else 0)

/-- The Björck step. -/
def bjorck (v : Fin n → Fin n → EReal) (c i : Fin n) : EReal := v c i - half32 * ∑ k, gramE v c k * v k i

/-- The inverse fourth root of a shifted eigenvalue, as the kernel computes it. -/
def root (x : EReal) : EReal := Ideal.rsqrt (Ideal.sqrt (x + Ideal.ofBits .f32 0x38D1B717#32))

/-- Into the left eigenbasis and scaled. -/
def t1 (u : Fin r → Fin r → EReal) (g : Fin r → Fin d → EReal) (l : Fin r → EReal) (c : Fin d) (j : Fin r) : EReal :=
  (∑ i, g i c * u j i) * root (l j)

/-- Into the right eigenbasis and scaled. -/
def t2 (u : Fin d → Fin d → EReal) (x : Fin d → Fin r → EReal) (l : Fin d → EReal) (e : Fin d) (j : Fin r) : EReal :=
  (∑ c, u e c * x c j) * root (l e)

/-- Out of the left eigenbasis. -/
def t3 (u : Fin r → Fin r → EReal) (x : Fin d → Fin r → EReal) (e : Fin d) (i : Fin r) : EReal := ∑ j, x e j * u j i

/-- Out of the right eigenbasis. -/
def pOf (u : Fin d → Fin d → EReal) (x : Fin d → Fin r → EReal) (i : Fin r) (c : Fin d) : EReal := ∑ e, x e i * u e c

/-- The preconditioned gradient from the two bases. -/
def precond (ul : Fin r → Fin r → EReal) (ur : Fin d → Fin d → EReal) (g : Fin r → Fin d → EReal) (ll : Fin r → EReal) (lr : Fin d → EReal)
    (i : Fin r) (c : Fin d) : EReal :=
  pOf ur (t3 ul (t2 ur (t1 ul g ll) lr)) i c

/-- The diagonally scaled gradient. -/
def adaOf (g acc : EReal) : EReal := Ideal.div g (Ideal.sqrt acc + Ideal.ofBits .f32 0x322BCC77#32)

/-- The Frobenius norm. -/
def norm (x : Fin r → Fin d → EReal) : EReal := Ideal.sqrt (∑ i, ∑ c, x i c * x i c)

/-- The grafted update. -/
def update (p a : Fin r → Fin d → EReal) (i : Fin r) (c : Fin d) : EReal := p i c * Ideal.div (norm a) (norm p)

/-! ## The few facts of arithmetic the two sides differ by -/

/-- The low nibble, signed by shifts or by a comparison. -/
theorem nib_low (b : BitVec 8) : Scalar.select (IntOp.cmpi .sge (IntOp.andi (b.setWidth 32) 15#32) 8#32)
    (IntOp.subi (IntOp.andi (b.setWidth 32) 15#32) 16#32) (IntOp.andi (b.setWidth 32) 15#32) = nib b 0 := by
  revert b; decide +kernel

/-- The high nibble likewise. -/
theorem nib_high (b : BitVec 8) : Scalar.select (IntOp.cmpi .sge (IntOp.shrsi .host (b.setWidth 32) 4#32) 8#32)
    (IntOp.subi (IntOp.shrsi .host (b.setWidth 32) 4#32) 16#32) (IntOp.shrsi .host (b.setWidth 32) 4#32) = nib b 1 := by
  revert b; decide +kernel

theorem nib_of_ne (b : BitVec 8) {q : Nat} (h : q ≠ 0) : nib b q = nib b 1 := by simp [nib, h]

theorem ofBits_49 : Ideal.ofBits .f32 0x42440000#32 = ((49 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_negQuarter : Ideal.ofBits .f32 0xBE800000#32 = ((-(1 / 4) : ℝ) : EReal) := by
  simp [Ideal.ofBits, Ideal.ieee, -EReal.coe_mul]; norm_num

/-- Dividing a signed square by 49 and scaling is scaling by the scale's 49th part. -/
theorem div49_mul (x s : EReal) : Ideal.div x (Ideal.ofBits .f32 0x42440000#32) * s = x * (s * ((1 / 49 : ℝ) : EReal)) := by
  rw [ofBits_49, Ideal.div_coe (by norm_num : (49 : ℝ) ≠ 0)]
  rw [mul_assoc, mul_comm _ s]

/-- Of a positive number the reciprocal root of the root is the power -1/4. -/
theorem rsqrt_sqrt_eq_pow (x : EReal) (hx : 0 < x) :
    Ideal.pow x (Ideal.ofBits .f32 0xBE800000#32) = Ideal.rsqrt (Ideal.sqrt x) := by
  rw [ofBits_negQuarter]
  induction x using EReal.rec with
  | bot => simp at hx
  | top =>
    show (if (0 : EReal) < ((-(1 / 4) : ℝ) : EReal) then (⊤ : EReal) else if ((-(1 / 4) : ℝ) : EReal) = 0 then 1 else 0) = Ideal.rsqrt ⊤
    rw [if_neg (by rw [not_lt]; exact_mod_cast (by norm_num : (-(1 / 4) : ℝ) ≤ 0)), if_neg (by exact_mod_cast (by norm_num : (-(1 / 4) : ℝ) ≠ 0))]
    rfl
  | coe x =>
    have h : (0 : ℝ) < x := by exact_mod_cast hx
    have hs : 0 < Real.sqrt x := Real.sqrt_pos.mpr h
    show ((Real.rpow x (-(1 / 4)) : ℝ) : EReal) = Ideal.rsqrt (if x < 0 then ⊥ else (Real.sqrt x : EReal))
    rw [if_neg (not_lt.mpr h.le)]
    show _ = (if Real.sqrt x < 0 then (⊥ : EReal) else if Real.sqrt x = 0 then ⊤ else (((Real.sqrt (Real.sqrt x))⁻¹ : ℝ) : EReal))
    rw [if_neg (not_lt.mpr hs.le), if_neg hs.ne']
    congr 1
    show x ^ (-(1 / 4) : ℝ) = _
    rw [Real.sqrt_eq_rpow, Real.sqrt_eq_rpow, ← Real.rpow_mul h.le, ← Real.rpow_neg h.le]
    norm_num

/-- The Gram matrix less the identity is symmetric. -/
theorem gramE_comm (v : Fin n → Fin n → EReal) (a b : Fin n) : gramE v a b = gramE v b a := by
  unfold gramE
  rw [show (∑ i, v a i * v b i) = ∑ i, v b i * v a i from Finset.sum_congr rfl fun i _ => mul_comm _ _]
  simp only [eq_comm]

end Shampoo

end
-- ==== Proof.Value.Reads.lean ====
/-
  Vectors read as windows of matrices of natural coordinates. `Reads X M a b` says that a two-axis vector `X` is the
  window of `M` whose corner is (a, b). Each operation of a kernel body keeps such a reading, so a chain of them is read
  by composing these lemmas; the offsets are numbers, and nothing of a coordinate's range is carried along.
-/
module

public import proofs.«01_k».proof.Proof.Value.Spec
public import Idealize.ShloMosaic.Lib.MatmulPlain
public import Idealize.ShloMosaic.Lib.ValueLayout
public import Idealize.ShloMosaic.Lib.Pipeline.Value
public import Idealize.ShloMosaic.Lib.Pipeline.ReadBack

@[expose] public section

noncomputable section

open scoped BigOperators

namespace Shampoo

open Idealize.ShloMosaic Idealize.ShloMosaic.ValueIdx

variable {α β γ : Type} {p q r : Nat}

/-- `X` is the window of `M` with corner (a, b). -/
def Reads (X : (⟨2, ![p, q]⟩ : Shape).Idx → α) (M : Nat → Nat → α) (a b : Nat) : Prop :=
  ∀ (i : Fin p) (j : Fin q), X (ix2 i j) = M (a + i.val) (b + j.val)

/-- The same of a vector under a leading unit axis. -/
def Reads3 (X : (⟨3, ![1, p, q]⟩ : Shape).Idx → α) (M : Nat → Nat → α) (a b : Nat) : Prop :=
  ∀ (u : Fin 1) (i : Fin p) (j : Fin q), X (ix3 u i j) = M (a + i.val) (b + j.val)

theorem Reads.congr {X : (⟨2, ![p, q]⟩ : Shape).Idx → α} {M N : Nat → Nat → α} {a b : Nat} (h : Reads X M a b)
    (e : ∀ i < p, ∀ j < q, M (a + i) (b + j) = N (a + i) (b + j)) : Reads X N a b :=
  fun i j => (h i j).trans (e i i.isLt j j.isLt)

/-- An elementwise operation. -/
theorem Reads.map {X : (⟨2, ![p, q]⟩ : Shape).Idx → α} {M : Nat → Nat → α} {a b : Nat} (f : α → β) (h : Reads X M a b) :
    Reads (fun i => f (X i)) (fun i j => f (M i j)) a b := fun i j => congrArg f (h i j)

theorem Reads.map₂ {X : (⟨2, ![p, q]⟩ : Shape).Idx → α} {Y : (⟨2, ![p, q]⟩ : Shape).Idx → β} {M : Nat → Nat → α} {N : Nat → Nat → β} {a b : Nat}
    (f : α → β → γ) (h : Reads X M a b) (k : Reads Y N a b) :
    Reads (fun i => f (X i) (Y i)) (fun i j => f (M i j) (N i j)) a b := fun i j => congrArg₂ f (h i j) (k i j)

/-- A splat. -/
theorem Reads.const (x : α) (a b : Nat) : Reads (p := p) (q := q) (broadcast ⟨2, ![p, q]⟩ x) (fun _ _ => x) a b := fun _ _ => rfl

theorem Reads.mul {φ : FTy} {X Y : FVec Ideal ⟨2, ![p, q]⟩ φ} {M N : Nat → Nat → EReal} {a b : Nat} (h : Reads X M a b) (k : Reads Y N a b) :
    Reads (mulf X Y) (fun i j => M i j * N i j) a b := Reads.map₂ (fun x y : EReal => x * y) h k

theorem Reads.sub {φ : FTy} {X Y : FVec Ideal ⟨2, ![p, q]⟩ φ} {M N : Nat → Nat → EReal} {a b : Nat} (h : Reads X M a b) (k : Reads Y N a b) :
    Reads (subf X Y) (fun i j => M i j - N i j) a b := Reads.map₂ (fun x y : EReal => x - y) h k

theorem Reads.trunc {φ ψ : FTy} {X : FVec Ideal ⟨2, ![p, q]⟩ φ} {M : Nat → Nat → EReal} {a b : Nat} (w : ψ.bits < φ.bits) (h : Reads X M a b) :
    Reads (truncf ψ X w) M a b := h

theorem Reads.ext {φ ψ : FTy} {X : FVec Ideal ⟨2, ![p, q]⟩ φ} {M : Nat → Nat → EReal} {a b : Nat} (w : φ.bits < ψ.bits) (h : Reads X M a b) :
    Reads (extf ψ X w) M a b := h

/-- A cast to the vector's own shape. -/
theorem Reads.cast {X : (⟨2, ![p, q]⟩ : Shape).Idx → α} {M : Nat → Nat → α} {a b : Nat} (w : (⟨2, ![p, q]⟩ : Shape).ShapeCasts ⟨2, ![p, q]⟩)
    (h : Reads X M a b) : Reads (shapeCast ⟨2, ![p, q]⟩ X w) M a b := by rw [shapeCast_self]; exact h

/-- A slice: the corner moves. -/
theorem Reads.slice {X : (⟨2, ![p, q]⟩ : Shape).Idx → α} {M : Nat → Nat → α} {a b : Nat} {p' q' o₁ o₂ : Nat}
    (w : (⟨2, ![p, q]⟩ : Shape).Slices ![o₁, o₂] ⟨2, ![p', q']⟩) (h : Reads X M a b) :
    Reads (extractStridedSlice ⟨2, ![p', q']⟩ ![o₁, o₂] X w) M (a + o₁) (b + o₂) := fun i j => by
  have h0 : o₁ + p' ≤ p := w.2 0
  have h1 : o₂ + q' ≤ q := w.2 1
  rw [extractStridedSlice_apply _ _ _ _ (ix2 (⟨o₁ + i.val, by omega⟩ : Fin p) (⟨o₂ + j.val, by omega⟩ : Fin q)) (fun c => by
    match c with
    | ⟨0, _⟩ => rfl
    | ⟨1, _⟩ => rfl), h _ _]
  simp only [Nat.add_assoc]

/-- A transpose: the coordinates trade places. -/
theorem Reads.transpose {X : (⟨2, ![p, q]⟩ : Shape).Idx → α} {M : Nat → Nat → α} {a b : Nat}
    (w : (⟨2, ![p, q]⟩ : Shape).Transposes [1, 0] ⟨2, ![q, p]⟩) (h : Reads X M a b) :
    Reads (Idealize.ShloMosaic.transpose ⟨2, ![q, p]⟩ [1, 0] X w) (fun i j => M j i) b a := fun i j => by
  rw [transpose_ix2_apply]; exact h j i

/-- A row repeated: every row is the window's one row. -/
theorem Reads.row {X : (⟨2, ![1, q]⟩ : Shape).Idx → α} {M : Nat → Nat → α} {a b : Nat}
    (w : (⟨2, ![1, q]⟩ : Shape).Broadcasts ⟨2, ![p, q]⟩) (hq : q ≠ 1) (a' : Nat) (h : Reads X M a b) :
    Reads (broadcastTo ⟨2, ![p, q]⟩ X w) (fun _ j => M a j) a' b := fun i j => by
  rw [broadcastTo_apply _ _ _ (ix2 (0 : Fin 1) j) (fun c => by
    match c with
    | ⟨0, _⟩ => rfl
    | ⟨1, _⟩ => exact (if_neg hq).symm)]
  exact h 0 j

/-- A leading unit axis dropped. -/
theorem Reads3.drop {X : (⟨3, ![1, p, q]⟩ : Shape).Idx → α} {M : Nat → Nat → α} {a b : Nat}
    (w : (⟨3, ![1, p, q]⟩ : Shape).ShapeCasts ⟨2, ![p, q]⟩) (h : Reads3 X M a b) : Reads (shapeCast ⟨2, ![p, q]⟩ X w) M a b := fun i j => by
  rw [shapeCast_1ab_ab_apply]; exact h 0 i j

/-- A leading unit axis added. -/
theorem Reads.add3 {X : (⟨2, ![p, q]⟩ : Shape).Idx → α} {M : Nat → Nat → α} {a b : Nat}
    (w : (⟨2, ![p, q]⟩ : Shape).ShapeCasts ⟨3, ![1, p, q]⟩) (h : Reads X M a b) : Reads3 (shapeCast ⟨3, ![1, p, q]⟩ X w) M a b := fun u i j => by
  rw [shapeCast_ab_1ab_apply]; exact h i j

/-- The product of rows by columns. -/
theorem Reads.dotNN {φ₁ φ₂ : FTy} {m k n : Nat} {X : FVec Ideal ⟨2, ![m, k]⟩ φ₁} {Y : FVec Ideal ⟨2, ![k, n]⟩ φ₂} {M N : Nat → Nat → EReal} {a b c : Nat}
    (h : Reads X M a c) (h' : Reads Y N c b) :
    Reads (matmul (DotDims.plain m k n) none X Y (constant ⟨2, ![m, n]⟩ .f32 0x00000000#32)) (fun i j => ∑ l : Fin k, M i (c + l.val) * N (c + l.val) j) a b := fun i j => by
  refine (Ideal.matmul_plain_apply none X Y _ i j).trans ?_
  refine (congrArg (· + _) Ideal.ofBits_zero_f32).trans ((zero_add _).trans ?_)
  exact Finset.sum_congr rfl fun l _ => congrArg₂ (fun x y : EReal => x * y) (h i l) (h' l j)

/-- The product of rows by rows. -/
theorem Reads.dotNT {φ₁ φ₂ : FTy} {m k n : Nat} {X : FVec Ideal ⟨2, ![m, k]⟩ φ₁} {Y : FVec Ideal ⟨2, ![n, k]⟩ φ₂} {M N : Nat → Nat → EReal} {a b c : Nat}
    (h : Reads X M a c) (h' : Reads Y N b c) :
    Reads (matmul (DotDims.transposedRhs m k n) none X Y (constant ⟨2, ![m, n]⟩ .f32 0x00000000#32)) (fun i j => ∑ l : Fin k, M i (c + l.val) * N j (c + l.val)) a b := fun i j => by
  refine (Ideal.matmul_transposedRhs_apply none X Y _ i j).trans ?_
  refine (congrArg (· + _) Ideal.ofBits_zero_f32).trans ((zero_add _).trans ?_)
  exact Finset.sum_congr rfl fun l _ => congrArg₂ (fun x y : EReal => x * y) (h i l) (h' j l)

/-! ## Stores and loads -/

/-- A matrix of natural coordinates as contents of a two-axis buffer. -/
def grid (M : Nat → Nat → α) (y : (⟨2, ![p, q]⟩ : Shape).Idx) : α := M (y 0).val (y 1).val

/-- The same under a leading unit axis. -/
def grid3 (M : Nat → Nat → α) (y : (⟨3, ![1, p, q]⟩ : Shape).Idx) : α := M (y 1).val (y 2).val

/-- The contents of a three-axis block as a matrix of natural coordinates. -/
def matOf [Inhabited α] (x : (⟨3, ![1, p, q]⟩ : Shape).Idx → α) (a b : Nat) : α :=
  if h : a < p ∧ b < q then x (ix3 (0 : Fin 1) ⟨a, h.1⟩ ⟨b, h.2⟩) else default

theorem matOf_apply [Inhabited α] (x : (⟨3, ![1, p, q]⟩ : Shape).Idx → α) (a : Fin p) (b : Fin q) : matOf x a.val b.val = x (ix3 (0 : Fin 1) a b) :=
  dif_pos ⟨a.isLt, b.isLt⟩

section Stores

variable {Val : EltTy → Type} {e : EltTy} {p' q' a b : Nat}

/-- A store of a window into its own place agrees with the matrix. -/
theorem Reads.piece {M : Nat → Nat → Val e} (inb : ∀ c, ![a, b] c + ![p', q'] c ≤ (⟨2, ![p, q]⟩ : Shape).size c)
    {X : (Rect.unit (s := ⟨2, ![p, q]⟩) ![a, b] ![p', q'] inb).shape.Idx → Val e} (h : Reads (p := p') (q := q') X M a b)
    (x : (Rect.unit (s := ⟨2, ![p, q]⟩) ![a, b] ![p', q'] inb).shape.Idx) :
    X x = grid (p := p) (q := q) M ((Rect.unit (s := ⟨2, ![p, q]⟩) ![a, b] ![p', q'] inb).emb x) := by
  have hx : x = ix2 (n0 := p') (n1 := q') (x 0) (x 1) := eq_ix2 (n0 := p') (n1 := q') x
  rw [hx]
  refine (h _ _).trans ?_
  show M _ _ = M (a + 1 * _) (b + 1 * _)
  rw [Nat.one_mul, Nat.one_mul]
  rfl

theorem Reads3.piece {M : Nat → Nat → Val e} (inb : ∀ c, ![0, a, b] c + ![1, p', q'] c ≤ (⟨3, ![1, p, q]⟩ : Shape).size c)
    {X : (Rect.unit (s := ⟨3, ![1, p, q]⟩) ![0, a, b] ![1, p', q'] inb).shape.Idx → Val e} (h : Reads3 (p := p') (q := q') X M a b)
    (x : (Rect.unit (s := ⟨3, ![1, p, q]⟩) ![0, a, b] ![1, p', q'] inb).shape.Idx) :
    X x = grid3 (p := p) (q := q) M ((Rect.unit (s := ⟨3, ![1, p, q]⟩) ![0, a, b] ![1, p', q'] inb).emb x) := by
  have hx : x = ix3 (n0 := 1) (n1 := p') (n2 := q') (x 0) (x 1) (x 2) := eq_ix3 (n0 := 1) (n1 := p') (n2 := q') x
  rw [hx]
  refine (h _ _ _).trans ?_
  show M _ _ = M (a + 1 * _) (b + 1 * _)
  rw [Nat.one_mul, Nat.one_mul]
  rfl

/-- Stores that agree with the matrix, one more before them. -/
theorem Reads.store {M : Nat → Nat → Val e} {L : List (View.Piece Val ⟨2, ![p, q]⟩ e)} {inb : ∀ c, ![a, b] c + ![p', q'] c ≤ (⟨2, ![p, q]⟩ : Shape).size c}
    {X : (⟨2, ![p', q']⟩ : Shape).Idx → Val e} (h : Reads (p := p') (q := q') X M a b) (k : View.PiecesOf (grid M) L) :
    View.PiecesOf (grid M) (⟨Rect.unit (s := ⟨2, ![p, q]⟩) ![a, b] ![p', q'] inb, X⟩ :: L) := ⟨Reads.piece inb h, k⟩

theorem Reads3.store {M : Nat → Nat → Val e} {L : List (View.Piece Val ⟨3, ![1, p, q]⟩ e)} {inb : ∀ c, ![0, a, b] c + ![1, p', q'] c ≤ (⟨3, ![1, p, q]⟩ : Shape).size c}
    {X : (⟨3, ![1, p', q']⟩ : Shape).Idx → Val e} (h : Reads3 (p := p') (q := q') X M a b) (k : View.PiecesOf (grid3 M) L) :
    View.PiecesOf (grid3 M) (⟨Rect.unit (s := ⟨3, ![1, p, q]⟩) ![0, a, b] ![1, p', q'] inb, X⟩ :: L) := ⟨Reads3.piece inb h, k⟩

theorem stores_nil {s : Shape} {G : s.Idx → Val e} : View.PiecesOf G [] := trivial

/-- What the stores `L` leave is the matrix `M`. -/
def Holds [∀ e, Nonempty (Val e)] (L : List (View.Piece Val ⟨2, ![p, q]⟩ e)) (M : Nat → Nat → Val e) : Prop :=
  ∀ y, View.canon L y = grid M y

theorem Holds.of [∀ e, Nonempty (Val e)] {L : List (View.Piece Val ⟨2, ![p, q]⟩ e)} {M : Nat → Nat → Val e}
    (h : View.PiecesOf (grid M) L) (c : ∀ y, ∃ pc ∈ L, y ∈ pc.1.set) : Holds L M :=
  fun y => View.canon_apply_of_pieces _ L h.mem y (c y)

/-- Stores that cover the buffer, after any earlier ones. -/
theorem Holds.over [∀ e, Nonempty (Val e)] {L L' : List (View.Piece Val ⟨2, ![p, q]⟩ e)} {M : Nat → Nat → Val e}
    (h : View.PiecesOf (grid M) L) (c : ∀ y, ∃ pc ∈ L, y ∈ pc.1.set) : Holds (L ++ L') M :=
  fun y => View.canon_append_of_pieces _ L' L h.mem y (c y)

/-- A load back. -/
theorem Holds.load [∀ e, Nonempty (Val e)] {sig : RefSig} {κ : Kind} {sp : Space} {L : List (View.Piece Val ⟨2, ![p, q]⟩ e)} {M : Nat → Nat → Val e}
    (h : Holds L M) (v : View sig κ sp ⟨2, ![p, q]⟩ e) (inb : ∀ c, ![a, b] c + ![p', q'] c ≤ (⟨2, ![p, q]⟩ : Shape).size c) :
    Reads (p := p') (q := q') (v.readCov L (Rect.unit (s := ⟨2, ![p, q]⟩) ![a, b] ![p', q'] inb).toLoadRect) M a b := fun i j => by
  rw [View.readCov_eq_canon']
  refine (h _).trans ?_
  show M (a + 1 * _) (b + 1 * _) = _
  rw [Nat.one_mul, Nat.one_mul]
  rfl

/-- A load of a block argument. -/
theorem load3 [Inhabited (Val e)] {sig : RefSig} {κ : Kind} {sp : Space} (v : View sig κ sp ⟨3, ![1, p, q]⟩ e) (f : v.ty.Contents Val)
    (x : (⟨3, ![1, p, q]⟩ : Shape).Idx → Val e) (hf : v.read Val f = x)
    (inb : ∀ c, ![0, a, b] c + ![1, p', q'] c ≤ (⟨3, ![1, p, q]⟩ : Shape).size c) :
    Reads3 (p := p') (q := q') (v.readAt Val (Rect.unit (s := ⟨3, ![1, p, q]⟩) ![0, a, b] ![1, p', q'] inb).toLoadRect f) (matOf x) a b := fun u i j => by
  rw [View.readAt_eq_ld, hf]
  have h1 : a + p' ≤ p := inb 1
  have h2 : b + q' ≤ q := inb 2
  refine Eq.trans ?_ (matOf_apply x ⟨a + i.val, by omega⟩ ⟨b + j.val, by omega⟩).symm
  refine congrArg x (funext fun c => Fin.ext ?_)
  match c with
  | ⟨0, _⟩ => show 0 + 1 * u.val = 0; omega
  | ⟨1, _⟩ => show a + 1 * i.val = a + i.val; omega
  | ⟨2, _⟩ => show b + 1 * j.val = b + j.val; omega

end Stores

/-! ## Totals -/

/-- The sum of a vector's elements. -/
def total {s : Shape} (x : s.Idx → EReal) : EReal := ∑ i, x i

theorem total_cast {s t : Shape} (x : s.Idx → EReal) (h : s.ShapeCasts t) : total (shapeCast t x h) = total x :=
  Equiv.sum_comp (Shape.reshapeEquiv h) x

theorem total_add {s : Shape} {φ : FTy} (x y : FVec Ideal s φ) : total (addf x y) = total x + total y :=
  Finset.sum_add_distrib

/-- A sum over some axes keeps the total. -/
theorem total_reduce {s t : Shape} {φ : FTy} {axes : List (Fin s.rank)} (x : FVec Ideal s φ) (acc : BitVec φ.bits) (h : s.Reduces axes t)
    (hφ : FKind.Formats φ) (hacc : acc = FKind.add.neutral φ hφ) : total (multiReduction .add axes t x acc h hφ hacc) = total x :=
  Finset.sum_fiberwise Finset.univ h.drop x

/-- The total of a window's squares. -/
theorem total_sq {φ : FTy} {X : FVec Ideal ⟨2, ![p, q]⟩ φ} {M : Nat → Nat → EReal} {a b : Nat} (h : Reads X M a b) :
    total (mulf X X) = ∑ i ∈ Finset.range p, ∑ j ∈ Finset.range q, M (a + i) (b + j) * M (a + i) (b + j) := by
  rw [total, sum_idx2, Finset.sum_range]
  refine Finset.sum_congr rfl fun i _ => ?_
  rw [Finset.sum_range]
  exact Finset.sum_congr rfl fun j _ => congrArg₂ (fun x y : EReal => x * y) (h i j) (h i j)

end Shampoo

end
-- ==== Proof.Value.Tiles.lean ====
/-
  The kernel's matrices as functions of natural coordinates, and what each kind of tile the kernel computes is a window
  of: one lemma per kind, over any shapes and offsets.
-/
module

public import proofs.«01_k».proof.Proof.Value.Reads

@[expose] public section

noncomputable section

open scoped BigOperators

namespace Shampoo

open Idealize.ShloMosaic Idealize.ShloMosaic.ValueIdx

/-! ## The matrices -/

/-- The decoded value of column `c`, row `i`. -/
def decN (half : Nat) (codes : Nat → Nat → BitVec 8) (s : Nat → Nat → EReal) (c i : Nat) : EReal :=
  ssq (nib (codes i (c % half)) (c / half)) * (s i (c / 64) * ((1 / 49 : ℝ) : EReal))

/-- The Gram matrix of the columns, less the identity. -/
def gramN (n : Nat) (v : Nat → Nat → EReal) (a b : Nat) : EReal := (∑ i : Fin n, v a i * v b i) - (if a = b then 1 else 0)

/-- The Björck step. -/
def bjorckN (n : Nat) (v : Nat → Nat → EReal) (c i : Nat) : EReal := v c i - half32 * ∑ k : Fin n, gramN n v c k * v k i

/-- Into the left eigenbasis and scaled. -/
def t1N (r : Nat) (u g : Nat → Nat → EReal) (l : Nat → EReal) (c j : Nat) : EReal := (∑ i : Fin r, g i c * u j i) * root (l j)

/-- Into the right eigenbasis and scaled. -/
def t2N (d : Nat) (u x : Nat → Nat → EReal) (l : Nat → EReal) (e j : Nat) : EReal := (∑ c : Fin d, u e c * x c j) * root (l e)

/-- Out of the left eigenbasis. -/
def t3N (r : Nat) (u x : Nat → Nat → EReal) (e i : Nat) : EReal := ∑ j : Fin r, x e j * u j i

/-- Out of the right eigenbasis. -/
def pN (d : Nat) (u x : Nat → Nat → EReal) (i c : Nat) : EReal := ∑ e : Fin d, x e i * u e c

/-! ## They are the matrices of the mathematics -/

theorem decN_eq {n half ng : Nat} (hn : n = 2 * half) (hg : n = 64 * ng) {codes : Fin n → Fin half → BitVec 8} {s : Fin n → Fin ng → EReal}
    {codes' : Nat → Nat → BitVec 8} {s' : Nat → Nat → EReal} (hc : ∀ i k, codes' i.val k.val = codes i k) (hs : ∀ i g, s' i.val g.val = s i g)
    (c i : Fin n) : decN half codes' s' c i = dec hn hg codes s c i := by
  unfold decN dec
  rw [← hc, ← hs]

theorem gramN_eq {n : Nat} {v : Fin n → Fin n → EReal} {V : Nat → Nat → EReal} (h : ∀ a b : Fin n, V a b = v a b) (a b : Fin n) :
    gramN n V a b = gramE v a b := by
  unfold gramN gramE
  simp only [h, Fin.ext_iff]

theorem bjorckN_eq {n : Nat} {v : Fin n → Fin n → EReal} {V : Nat → Nat → EReal} (h : ∀ a b : Fin n, V a b = v a b) (a b : Fin n) :
    bjorckN n V a b = bjorck v a b := by
  unfold bjorckN bjorck
  simp only [h, gramN_eq h]

theorem pN_eq {r d : Nat} {ul : Fin r → Fin r → EReal} {ur : Fin d → Fin d → EReal} {g : Fin r → Fin d → EReal} {ll : Fin r → EReal} {lr : Fin d → EReal}
    {UL UR G : Nat → Nat → EReal} {LL LR : Nat → EReal} (hl : ∀ a b : Fin r, UL a b = ul a b) (hr : ∀ a b : Fin d, UR a b = ur a b)
    (hg : ∀ (a : Fin r) (b : Fin d), G a b = g a b) (hll : ∀ a : Fin r, LL a = ll a) (hlr : ∀ a : Fin d, LR a = lr a) (i : Fin r) (c : Fin d) :
    pN d UR (t3N r UL (t2N d UR (t1N r UL G LL) LR)) i c = precond ul ur g ll lr i c := by
  unfold pN precond pOf t3N t3 t2N t2 t1N t1
  simp only [hl, hr, hg, hll, hlr]

theorem gramN_comm (n : Nat) (v : Nat → Nat → EReal) (a b : Nat) : gramN n v a b = gramN n v b a := by
  unfold gramN
  rw [show (∑ i : Fin n, v a i * v b i) = ∑ i : Fin n, v b i * v a i from Finset.sum_congr rfl fun i _ => mul_comm _ _]
  simp only [eq_comm]

/-! ## Decoding -/

/-- The signed squares of a window of codes, a column to a row. -/
theorem squares {p w i0 k0 : Nat} {sh : BitVec 32} {C : Vec Ideal ⟨3, ![1, p, w]⟩ .i8} {codes : Nat → Nat → BitVec 8} (hC : Reads3 C codes i0 k0)
    (w₁ : (⟨3, ![1, p, w]⟩ : Shape).ShapeCasts ⟨2, ![p, w]⟩) (w₂ : 8 < 32) (w₃ : (⟨2, ![p, w]⟩ : Shape).Transposes [1, 0] ⟨2, ![w, p]⟩) :
    Reads (fun j => ssq (IntOp.shrsi .vector (IntOp.shli .vector
        (Idealize.ShloMosaic.transpose ⟨2, ![w, p]⟩ [1, 0] (extui 32 (shapeCast ⟨2, ![p, w]⟩ C w₁) w₂) w₃ j) sh) 28#32))
      (fun k i => ssq (IntOp.shrsi .vector (IntOp.shli .vector ((codes i k).setWidth 32) sh) 28#32)) k0 i0 :=
  ((((hC.drop w₁).map fun b : BitVec 8 => b.setWidth 32).transpose w₃).map fun b => ssq (IntOp.shrsi .vector (IntOp.shli .vector b sh) 28#32))

/-- The scales of a window of rows, a group to a row, each a 49th part. -/
theorem scales {p ng i0 : Nat} {z : EReal} (hz : z = ((1 / 49 : ℝ) : EReal)) {S : Vec Ideal ⟨3, ![1, p, ng]⟩ .f32} {s : Nat → Nat → EReal} (hS : Reads3 S s i0 0)
    (w₁ : (⟨3, ![1, p, ng]⟩ : Shape).ShapeCasts ⟨2, ![p, ng]⟩) (w₃ : (⟨2, ![p, ng]⟩ : Shape).Transposes [1, 0] ⟨2, ![ng, p]⟩) :
    Reads (mulf (φ := .f32) (F := Ideal) (Idealize.ShloMosaic.transpose ⟨2, ![ng, p]⟩ [1, 0] (shapeCast ⟨2, ![p, ng]⟩ S w₁) w₃) (broadcast ⟨2, ![ng, p]⟩ z))
      (fun g i => s i g * ((1 / 49 : ℝ) : EReal)) 0 i0 := by
  subst hz
  exact ((hS.drop w₁).transpose w₃).mul (Reads.const _ _ _)

/-- A tile of 64 columns lies in one nibble and one group. -/
theorem decN_tile {half col k0 grp r i : Nat} {sh : BitVec 32} {codes : Nat → Nat → BitVec 8} {s : Nat → Nat → EReal} (hm : col % half = k0)
    (hk : k0 + 64 ≤ half) (hg : col = 64 * grp) (hs : sh = if col / half = 0 then 28#32 else 24#32) (hr : r < 64) :
    ssq (IntOp.shrsi .vector (IntOp.shli .vector ((codes i (k0 + r)).setWidth 32) sh) 28#32) * (s i grp * ((1 / 49 : ℝ) : EReal))
      = decN half codes s (col + r) i := by
  have e : col + r = half * (col / half) + (k0 + r) := by
    have := Nat.div_add_mod col half
    omega
  have h1 : (col + r) % half = k0 + r := by rw [e, Nat.mul_add_mod, Nat.mod_eq_of_lt (by omega)]
  have h2 : (col + r) / half = col / half := by
    generalize col / half = t at e
    rw [e, Nat.mul_add_div (show half > 0 by omega), Nat.div_eq_of_lt (show k0 + r < half by omega), Nat.add_zero]
  have h3 : (col + r) / 64 = grp := by omega
  unfold decN
  rw [h1, h2, h3, hs]
  unfold nib
  split <;> rfl

section Decode

variable {n half ng p w i0 k0 q grp col : Nat} {sh : BitVec 32} {z : EReal} {codes : Nat → Nat → BitVec 8} {s : Nat → Nat → EReal}
variable {S : Vec Ideal ⟨3, ![1, p, ng]⟩ .f32}

/-- A decoded tile whose columns are 64 of the window's. -/
theorem decode_tile {C : Vec Ideal ⟨3, ![1, p, w]⟩ .i8} (hz : z = ((1 / 49 : ℝ) : EReal)) (hC : Reads3 C codes i0 k0) (hS : Reads3 S s i0 0)
    (w₁ : (⟨3, ![1, p, w]⟩ : Shape).ShapeCasts ⟨2, ![p, w]⟩ := by decide) (w₃ : (⟨2, ![p, w]⟩ : Shape).Transposes [1, 0] ⟨2, ![w, p]⟩ := by decide)
    (w₄ : (⟨3, ![1, p, ng]⟩ : Shape).ShapeCasts ⟨2, ![p, ng]⟩ := by decide) (w₅ : (⟨2, ![p, ng]⟩ : Shape).Transposes [1, 0] ⟨2, ![ng, p]⟩ := by decide)
    (w₆ : (⟨2, ![w, p]⟩ : Shape).Slices ![q, 0] ⟨2, ![64, p]⟩ := by decide) (w₇ : (⟨2, ![ng, p]⟩ : Shape).Slices ![grp, 0] ⟨2, ![1, p]⟩ := by decide)
    (w₈ : (⟨2, ![1, p]⟩ : Shape).Broadcasts ⟨2, ![64, p]⟩ := by decide) (w₉ : FTy.bits .bf16 < FTy.bits .f32 := by decide) (w₀ : (⟨2, ![64, p]⟩ : Shape).ShapeCasts ⟨2, ![64, p]⟩ := by decide)
    (hp : p ≠ 1 := by decide) (hm : col % half = k0 + q := by decide) (hk : k0 + q + 64 ≤ half := by decide) (hg : col = 64 * grp := by decide)
    (hs : sh = if col / half = 0 then 28#32 else 24#32 := by decide) :
    Reads (shapeCast ⟨2, ![64, p]⟩ (truncf (F := Ideal) .bf16 (mulf
        (extractStridedSlice ⟨2, ![64, p]⟩ ![q, 0] (mulf
            (sitofp .f32 (shrsi (shli (Idealize.ShloMosaic.transpose ⟨2, ![w, p]⟩ [1, 0] (extui 32 (shapeCast ⟨2, ![p, w]⟩ C w₁) (by decide)) w₃)
              (broadcast ⟨2, ![w, p]⟩ sh)) (broadcast ⟨2, ![w, p]⟩ 28#32)))
            (absf (sitofp .f32 (shrsi (shli (Idealize.ShloMosaic.transpose ⟨2, ![w, p]⟩ [1, 0] (extui 32 (shapeCast ⟨2, ![p, w]⟩ C w₁) (by decide)) w₃)
              (broadcast ⟨2, ![w, p]⟩ sh)) (broadcast ⟨2, ![w, p]⟩ 28#32))))) w₆)
        (broadcastTo ⟨2, ![64, p]⟩ (extractStridedSlice ⟨2, ![1, p]⟩ ![grp, 0] (mulf (φ := .f32)
          (Idealize.ShloMosaic.transpose ⟨2, ![ng, p]⟩ [1, 0] (shapeCast ⟨2, ![p, ng]⟩ S w₄) w₅)
          (broadcast ⟨2, ![ng, p]⟩ z)) w₇) w₈)) w₉) w₀)
      (decN half codes s) col i0 := by
  refine Reads.cast _ (Reads.trunc _ ?_)
  intro i j
  refine (Reads.mul ((squares (sh := sh) hC w₁ (by decide) w₃).slice w₆)
    (((scales hz hS w₄ w₅).slice w₇).row w₈ hp (k0 + q)) i j).trans ?_
  rw [Nat.add_zero, Nat.zero_add]
  exact decN_tile hm hk hg hs i.isLt

/-- A decoded tile whose columns are all of the window's. -/
theorem decode_tile_whole {C : Vec Ideal ⟨3, ![1, p, 64]⟩ .i8} (hz : z = ((1 / 49 : ℝ) : EReal)) (hC : Reads3 C codes i0 k0) (hS : Reads3 S s i0 0)
    (w₁ : (⟨3, ![1, p, 64]⟩ : Shape).ShapeCasts ⟨2, ![p, 64]⟩ := by decide) (w₃ : (⟨2, ![p, 64]⟩ : Shape).Transposes [1, 0] ⟨2, ![64, p]⟩ := by decide)
    (w₄ : (⟨3, ![1, p, ng]⟩ : Shape).ShapeCasts ⟨2, ![p, ng]⟩ := by decide) (w₅ : (⟨2, ![p, ng]⟩ : Shape).Transposes [1, 0] ⟨2, ![ng, p]⟩ := by decide)
    (w₇ : (⟨2, ![ng, p]⟩ : Shape).Slices ![grp, 0] ⟨2, ![1, p]⟩ := by decide)
    (w₈ : (⟨2, ![1, p]⟩ : Shape).Broadcasts ⟨2, ![64, p]⟩ := by decide) (w₉ : FTy.bits .bf16 < FTy.bits .f32 := by decide) (w₀ : (⟨2, ![64, p]⟩ : Shape).ShapeCasts ⟨2, ![64, p]⟩ := by decide)
    (hp : p ≠ 1 := by decide) (hm : col % half = k0 := by decide) (hk : k0 + 64 ≤ half := by decide) (hg : col = 64 * grp := by decide)
    (hs : sh = if col / half = 0 then 28#32 else 24#32 := by decide) :
    Reads (shapeCast ⟨2, ![64, p]⟩ (truncf (F := Ideal) .bf16 (mulf
        (mulf
            (sitofp .f32 (shrsi (shli (Idealize.ShloMosaic.transpose ⟨2, ![64, p]⟩ [1, 0] (extui 32 (shapeCast ⟨2, ![p, 64]⟩ C w₁) (by decide)) w₃)
              (broadcast ⟨2, ![64, p]⟩ sh)) (broadcast ⟨2, ![64, p]⟩ 28#32)))
            (absf (sitofp .f32 (shrsi (shli (Idealize.ShloMosaic.transpose ⟨2, ![64, p]⟩ [1, 0] (extui 32 (shapeCast ⟨2, ![p, 64]⟩ C w₁) (by decide)) w₃)
              (broadcast ⟨2, ![64, p]⟩ sh)) (broadcast ⟨2, ![64, p]⟩ 28#32)))))
        (broadcastTo ⟨2, ![64, p]⟩ (extractStridedSlice ⟨2, ![1, p]⟩ ![grp, 0] (mulf (φ := .f32)
          (Idealize.ShloMosaic.transpose ⟨2, ![ng, p]⟩ [1, 0] (shapeCast ⟨2, ![p, ng]⟩ S w₄) w₅)
          (broadcast ⟨2, ![ng, p]⟩ z)) w₇) w₈)) w₉) w₀)
      (decN half codes s) col i0 := by
  refine Reads.cast _ (Reads.trunc _ ?_)
  intro i j
  refine (Reads.mul (squares (sh := sh) hC w₁ (by decide) w₃)
    (((scales hz hS w₄ w₅).slice w₇).row w₈ hp k0) i j).trans ?_
  rw [Nat.zero_add]
  exact decN_tile hm hk hg hs i.isLt

end Decode

end Shampoo

end
-- ==== Proof.Value.DecodeL.lean ====
/-
  What the kernel's left decoding leaves in its scratch.
-/
module

public import proofs.«01_k».proof.Proof.Value.Tiles
public import proofs.«01_k».proof.Proof.Gen.KernelIdeal.Frame

@[expose] public section

set_option maxRecDepth 16384
set_option maxHeartbeats 4000000

noncomputable section

namespace Cert.KernelIdeal.Value

open Cert.KernelIdeal Cert.KernelIdeal.Gen Idealize.ShloMosaic Idealize.ShloMosaic.ValueIdx Idealize.ShloMosaic.Tactic Shampoo

/-- The named reciprocal is the 49th part. -/
theorem inv49 : Named.named (F := Ideal) (φ := .f32) κ "inv49" 0x3CA72F05#32 = ((1 / 49 : ℝ) : EReal) := IdealRules.named_const.ideal_named_scalar _ _ _ _ rfl

/-- The left decoded basis, from the blocks of codes and scales. -/
abbrev VL (x2 : Vec Ideal S1x1024x512 .i8) (x3 : Vec Ideal S1x1024x16 .f32) : Nat → Nat → EReal := decN 512 (matOf x2) (matOf x3)

variable (c : Dev nD) (arg3 : Memref sig .tc .vmem S1x1024x512 .i8) (harg3 : arg3.IsWhole) (arg4 : Memref sig .tc .vmem S1x1024x16 .f32) (harg4 : arg4.IsWhole)
variable (x2 : Vec Ideal S1x1024x512 .i8) (x3 : Vec Ideal S1x1024x16 .f32)

/-- The left scratch holds the left decoded basis. -/
theorem holds_VL : Holds (kernelRun0_A.sl.HS0_128 (F := Ideal) c arg3 harg3 arg4 harg4 x2 x3) (VL x2 x3) := by
  refine Holds.of ?_ (View.cover_of_tiledL (kernelRun0_A.sl.HS0_128 (F := Ideal) c arg3 harg3 arg4 harg4 x2 x3) S64x128.size (by sl_kernel_rfl))
  unfold kernelRun0_A.sl.HS0_128
  repeat refine Reads.store (p' := 64) (q' := 128) (decode_tile inv49 (load3 _ _ _ (harg3.read_unread _) _) (load3 _ _ _ (harg4.read_unread _) _)) ?_
  exact stores_nil

end Cert.KernelIdeal.Value

end
-- ==== Proof.Value.DecodeR.lean ====
/-
  What the kernel's right decoding leaves in its scratch.
-/
module

public import proofs.«01_k».proof.Proof.Value.DecodeL
public import proofs.«01_k».proof.Proof.Gen.KernelIdeal.Frame

@[expose] public section

set_option maxRecDepth 16384
set_option maxHeartbeats 1000000

noncomputable section

namespace Cert.KernelIdeal.Value

open Cert.KernelIdeal Cert.KernelIdeal.Gen Idealize.ShloMosaic Idealize.ShloMosaic.ValueIdx Idealize.ShloMosaic.Tactic Shampoo

/-- The right decoded basis, from the blocks of codes and scales. -/
abbrev VR (x5 : Vec Ideal S1x1152x576 .i8) (x6 : Vec Ideal S1x1152x18 .f32) : Nat → Nat → EReal := decN 576 (matOf x5) (matOf x6)

variable (c : Dev nD) (arg6 : Memref sig .tc .vmem S1x1152x576 .i8) (harg6 : arg6.IsWhole) (arg7 : Memref sig .tc .vmem S1x1152x18 .f32) (harg7 : arg7.IsWhole)
variable (x5 : Vec Ideal S1x1152x576 .i8) (x6 : Vec Ideal S1x1152x18 .f32)

/-- The right scratch holds the right decoded basis. -/
theorem holds_VR : Holds (kernelRun0_A.sl.HS1_162 (F := Ideal) c arg6 harg6 arg7 harg7 x5 x6) (VR x5 x6) := by
  refine Holds.of ?_ (View.cover_of_tiledL (kernelRun0_A.sl.HS1_162 (F := Ideal) c arg6 harg6 arg7 harg7 x5 x6) S64x128.size (by sl_kernel_rfl))
  unfold kernelRun0_A.sl.HS1_162
  iterate 9
    iterate 2 refine Reads.store (p' := 64) (q' := 128) (decode_tile_whole inv49 (load3 _ _ _ (harg6.read_unread _) _) (load3 _ _ _ (harg7.read_unread _) _)) ?_
    iterate 16 refine Reads.store (p' := 64) (q' := 128) (decode_tile inv49 (load3 _ _ _ (harg6.read_unread _) _) (load3 _ _ _ (harg7.read_unread _) _)) ?_
  exact stores_nil

end Cert.KernelIdeal.Value

end
-- ==== Proof.Value.Blocks.lean ====
/-
  The kernel's matrix products, tile by tile: each kind of tile is a window of its matrix.
-/
module

public import proofs.«01_k».proof.Proof.Value.Tiles

@[expose] public section

noncomputable section

open scoped BigOperators

namespace Shampoo

open Idealize.ShloMosaic Idealize.ShloMosaic.ValueIdx

variable {m k n p q a b : Nat}

/-- Rows by rows, both from column zero. -/
theorem rowsRows {φ₁ φ₂ : FTy} {X : FVec Ideal ⟨2, ![m, k]⟩ φ₁} {Y : FVec Ideal ⟨2, ![n, k]⟩ φ₂} {M N : Nat → Nat → EReal}
    (h : Reads X M a 0) (h' : Reads Y N b 0) :
    Reads (matmul (DotDims.transposedRhs m k n) none X Y (constant ⟨2, ![m, n]⟩ .f32 0x00000000#32)) (fun i j => ∑ l : Fin k, M i l * N j l) a b := fun i j => by
  refine (Reads.dotNT h h' i j).trans (Finset.sum_congr rfl fun l _ => ?_)
  rw [Nat.zero_add]

/-- Rows by columns, from column and row zero. -/
theorem rowsCols {φ₁ φ₂ : FTy} {X : FVec Ideal ⟨2, ![m, k]⟩ φ₁} {Y : FVec Ideal ⟨2, ![k, n]⟩ φ₂} {M N : Nat → Nat → EReal}
    (h : Reads X M a 0) (h' : Reads Y N 0 b) :
    Reads (matmul (DotDims.plain m k n) none X Y (constant ⟨2, ![m, n]⟩ .f32 0x00000000#32)) (fun i j => ∑ l : Fin k, M i l * N l j) a b := fun i j => by
  refine (Reads.dotNN h h' i j).trans (Finset.sum_congr rfl fun l _ => ?_)
  rw [Nat.zero_add]

/-- A slice along the columns only. -/
theorem Reads.cols {α : Type} {X : (⟨2, ![p, q]⟩ : Shape).Idx → α} {M : Nat → Nat → α} {q' o : Nat}
    (w : (⟨2, ![p, q]⟩ : Shape).Slices ![0, o] ⟨2, ![p, q']⟩) (h : Reads X M a b) :
    Reads (extractStridedSlice ⟨2, ![p, q']⟩ ![0, o] X w) M a (b + o) := h.slice w

/-! ## The Gram matrix -/

/-- One on the diagonal, zero off it. -/
theorem eye {m c : Nat} (hm : m < 2 ^ 32) (w₁ : (⟨2, ![m, m]⟩ : Shape).Iotas .tc 32 [0]) (w₂ : (⟨2, ![m, m]⟩ : Shape).Iotas .tc 32 [1]) :
    Reads (select (cmpi .eq (iota .tc ⟨2, ![m, m]⟩ 32 [0] w₁) (iota .tc ⟨2, ![m, m]⟩ 32 [1] w₂))
        (broadcast ⟨2, ![m, m]⟩ (Ideal.ofBits .f32 0x3F800000#32)) (broadcast ⟨2, ![m, m]⟩ (Ideal.ofBits .f32 0x00000000#32)))
      (fun i j => if i = j then (1 : EReal) else 0) c c := fun i j => by
  show Scalar.select (IntOp.cmpi .eq (iota .tc ⟨2, ![m, m]⟩ 32 [0] w₁ (ix2 i j)) (iota .tc ⟨2, ![m, m]⟩ 32 [1] w₂ (ix2 i j)))
    (Ideal.ofBits .f32 0x3F800000#32) (Ideal.ofBits .f32 0x00000000#32) = _
  rw [iota_single_apply, iota_single_apply, ofBits_one, Ideal.ofBits_zero_f32]
  show Scalar.select (BitVec.ofBool (BitVec.ofNat 32 i.val == BitVec.ofNat 32 j.val)) (1 : EReal) 0 = _
  have hi := i.isLt
  have hj := j.isLt
  by_cases h : i.val = j.val
  · show _ = if c + i.val = c + j.val then (1 : EReal) else 0
    rw [h, beq_self_eq_true, if_pos rfl]; rfl
  · have h' : BitVec.ofNat 32 i.val ≠ BitVec.ofNat 32 j.val := fun e => h (by
      have := congrArg BitVec.toNat e
      rwa [BitVec.toNat_ofNat, BitVec.toNat_ofNat, Nat.mod_eq_of_lt (by omega), Nat.mod_eq_of_lt (by omega)] at this)
    show _ = if c + i.val = c + j.val then (1 : EReal) else 0
    rw [beq_eq_false_iff_ne.mpr h', if_neg (by omega)]; rfl

section Gram

variable {rows kw k0 : Nat} {X : FVec Ideal ⟨2, ![rows, n]⟩ .bf16} {Y : FVec Ideal ⟨2, ![kw, n]⟩ .bf16} {V : Nat → Nat → EReal}

/-- Above the diagonal. -/
theorem gram_above (hX : Reads X V 0 0) (hY : Reads Y V k0 0)
    (w₁ : (⟨2, ![rows, kw]⟩ : Shape).Slices ![0, 0] ⟨2, ![k0, kw]⟩ := by decide) (w₂ : FTy.bits .bf16 < FTy.bits .f32 := by decide) :
    Reads (truncf (F := Ideal) .bf16 (extractStridedSlice ⟨2, ![k0, kw]⟩ ![0, 0]
        (matmul (DotDims.transposedRhs rows n kw) none X Y (constant ⟨2, ![rows, kw]⟩ .f32 0x00000000#32)) w₁) w₂) (gramN n V) 0 k0 := by
  refine Reads.trunc _ (((rowsRows hX hY).slice w₁).congr fun i hi j hj => ?_)
  unfold gramN
  rw [if_neg (by omega), sub_zero]

theorem gram_upper (hX : Reads X V 0 0) (hY : Reads Y V k0 0)
    (w₁ : (⟨2, ![rows, kw]⟩ : Shape).Slices ![0, 0] ⟨2, ![k0, kw]⟩ := by decide) (w₂ : FTy.bits .bf16 < FTy.bits .f32 := by decide)
    (w₃ : (⟨2, ![k0, kw]⟩ : Shape).ShapeCasts ⟨2, ![k0, kw]⟩ := by decide) :
    Reads (shapeCast ⟨2, ![k0, kw]⟩ (truncf (F := Ideal) .bf16 (extractStridedSlice ⟨2, ![k0, kw]⟩ ![0, 0]
        (matmul (DotDims.transposedRhs rows n kw) none X Y (constant ⟨2, ![rows, kw]⟩ .f32 0x00000000#32)) w₁) w₂) w₃) (gramN n V) 0 k0 :=
  (gram_above hX hY w₁ w₂).cast w₃

/-- Below it: the transpose. -/
theorem gram_lower (hX : Reads X V 0 0) (hY : Reads Y V k0 0)
    (w₁ : (⟨2, ![rows, kw]⟩ : Shape).Slices ![0, 0] ⟨2, ![k0, kw]⟩ := by decide) (w₂ : FTy.bits .bf16 < FTy.bits .f32 := by decide)
    (w₃ : (⟨2, ![k0, kw]⟩ : Shape).Transposes [1, 0] ⟨2, ![kw, k0]⟩ := by decide) (w₄ : (⟨2, ![kw, k0]⟩ : Shape).ShapeCasts ⟨2, ![kw, k0]⟩ := by decide) :
    Reads (shapeCast ⟨2, ![kw, k0]⟩ (transpose ⟨2, ![kw, k0]⟩ [1, 0] (truncf (F := Ideal) .bf16 (extractStridedSlice ⟨2, ![k0, kw]⟩ ![0, 0]
        (matmul (DotDims.transposedRhs rows n kw) none X Y (constant ⟨2, ![rows, kw]⟩ .f32 0x00000000#32)) w₁) w₂) w₃) w₄) (gramN n V) k0 0 :=
  (((gram_above hX hY w₁ w₂).transpose w₃).congr fun _ _ _ _ => gramN_comm _ _ _ _).cast w₄

/-- On it. -/
theorem gram_diag (hX : Reads X V 0 0) (hY : Reads Y V k0 0) (hm : kw < 2 ^ 32 := by decide)
    (w₁ : (⟨2, ![rows, kw]⟩ : Shape).Slices ![k0, 0] ⟨2, ![kw, kw]⟩ := by decide) (w₂ : FTy.bits .bf16 < FTy.bits .f32 := by decide)
    (w₃ : (⟨2, ![kw, kw]⟩ : Shape).ShapeCasts ⟨2, ![kw, kw]⟩ := by decide)
    (w₄ : (⟨2, ![kw, kw]⟩ : Shape).Iotas .tc 32 [0] := by decide) (w₅ : (⟨2, ![kw, kw]⟩ : Shape).Iotas .tc 32 [1] := by decide) :
    Reads (shapeCast ⟨2, ![kw, kw]⟩ (truncf (F := Ideal) .bf16 (subf (extractStridedSlice ⟨2, ![kw, kw]⟩ ![k0, 0]
        (matmul (DotDims.transposedRhs rows n kw) none X Y (constant ⟨2, ![rows, kw]⟩ .f32 0x00000000#32)) w₁)
      (select (cmpi .eq (iota .tc ⟨2, ![kw, kw]⟩ 32 [0] w₄) (iota .tc ⟨2, ![kw, kw]⟩ 32 [1] w₅))
        (broadcast ⟨2, ![kw, kw]⟩ (Ideal.ofBits .f32 0x3F800000#32)) (broadcast ⟨2, ![kw, kw]⟩ (Ideal.ofBits .f32 0x00000000#32)))) w₂) w₃) (gramN n V) k0 k0 := by
  refine Reads.cast _ (Reads.trunc _ (Reads.sub (N := fun i j => if i = j then (1 : EReal) else 0) (M := fun i j => ∑ l : Fin n, V i l * V j l) ?_ (eye hm w₄ w₅)))
  have h := (rowsRows hX hY).slice w₁
  rw [Nat.zero_add, Nat.add_zero] at h
  exact h

/-- The first block of it. -/
theorem gram_first {X : FVec Ideal ⟨2, ![kw, n]⟩ .bf16} (hX : Reads X V 0 0) (hm : kw < 2 ^ 32 := by decide)
    (w₂ : FTy.bits .bf16 < FTy.bits .f32 := by decide) (w₃ : (⟨2, ![kw, kw]⟩ : Shape).ShapeCasts ⟨2, ![kw, kw]⟩ := by decide)
    (w₄ : (⟨2, ![kw, kw]⟩ : Shape).Iotas .tc 32 [0] := by decide) (w₅ : (⟨2, ![kw, kw]⟩ : Shape).Iotas .tc 32 [1] := by decide) :
    Reads (shapeCast ⟨2, ![kw, kw]⟩ (truncf (F := Ideal) .bf16 (subf
        (matmul (DotDims.transposedRhs kw n kw) none X X (constant ⟨2, ![kw, kw]⟩ .f32 0x00000000#32))
      (select (cmpi .eq (iota .tc ⟨2, ![kw, kw]⟩ 32 [0] w₄) (iota .tc ⟨2, ![kw, kw]⟩ 32 [1] w₅))
        (broadcast ⟨2, ![kw, kw]⟩ (Ideal.ofBits .f32 0x3F800000#32)) (broadcast ⟨2, ![kw, kw]⟩ (Ideal.ofBits .f32 0x00000000#32)))) w₂) w₃) (gramN n V) 0 0 :=
  Reads.cast _ (Reads.trunc _ (Reads.sub (N := fun i j => if i = j then (1 : EReal) else 0) (M := fun i j => ∑ l : Fin n, V i l * V j l) (rowsRows hX hX) (eye hm w₄ w₅)))

end Gram

/-- A strip of the corrected basis. -/
theorem correct_strip {E : FVec Ideal ⟨2, ![n, n]⟩ .bf16} {X : FVec Ideal ⟨2, ![n, q]⟩ .bf16} {V : Nat → Nat → EReal} (hE : Reads E (gramN n V) 0 0)
    (hX : Reads X V 0 b) (w₁ : FTy.bits .bf16 < FTy.bits .f32 := by decide) (w₂ : FTy.bits .bf16 < FTy.bits .f32 := by decide)
    (w₃ : (⟨2, ![n, q]⟩ : Shape).ShapeCasts ⟨2, ![n, q]⟩ := by decide) :
    Reads (shapeCast ⟨2, ![n, q]⟩ (truncf (F := Ideal) .bf16 (subf (extf .f32 X w₁) (mulf (broadcast ⟨2, ![n, q]⟩ (Ideal.ofBits .f32 0x3F000000#32))
        (matmul (DotDims.plain n n q) none E X (constant ⟨2, ![n, q]⟩ .f32 0x00000000#32)))) w₂) w₃) (bjorckN n V) 0 b :=
  Reads.cast _ (Reads.trunc _ (Reads.sub (hX.ext w₁) ((Reads.const half32 0 b).mul (rowsCols hE hX))))

/-! ## The preconditioned gradient -/

/-- A chunk of the transposed gradient. -/
theorem flip_chunk {C : Vec Ideal ⟨3, ![1, p, q]⟩ .bf16} {G : Nat → Nat → EReal} (hC : Reads3 (α := EReal) C G a b)
    (w₁ : (⟨3, ![1, p, q]⟩ : Shape).ShapeCasts ⟨2, ![p, q]⟩ := by decide) (w₂ : (⟨2, ![p, q]⟩ : Shape).Transposes [1, 0] ⟨2, ![q, p]⟩ := by decide)
    (w₃ : (⟨2, ![q, p]⟩ : Shape).ShapeCasts ⟨2, ![q, p]⟩ := by decide) :
    Reads (α := EReal) (shapeCast ⟨2, ![q, p]⟩ (transpose ⟨2, ![q, p]⟩ [1, 0] (shapeCast ⟨2, ![p, q]⟩ C w₁) w₂) w₃) (fun i j => G j i) b a :=
  (((hC.drop w₁).transpose w₂).cast w₃)

/-- The inverse fourth roots. -/
theorem roots {C : Vec Ideal ⟨3, ![1, 1, q]⟩ .f32} {l : Nat → Nat → EReal} (hC : Reads3 (α := EReal) C l 0 0)
    (w₁ : (⟨3, ![1, 1, q]⟩ : Shape).ShapeCasts ⟨2, ![1, q]⟩) :
    Reads (rsqrt (F := Ideal) (φ := .f32) (sqrt (addf (shapeCast ⟨2, ![1, q]⟩ C w₁) (broadcast ⟨2, ![1, q]⟩ (Ideal.ofBits .f32 0x38D1B717#32))))) (fun _ j => root (l 0 j)) 0 0 :=
  ((hC.drop w₁).map root).congr fun i hi j _ => by rw [show 0 + i = 0 by omega]

/-- A strip of the first product. -/
theorem t1_strip {r j0 : Nat} {A : FVec Ideal ⟨2, ![p, r]⟩ .bf16} {U : FVec Ideal ⟨2, ![q, r]⟩ .bf16} {D : FVec Ideal ⟨2, ![1, r]⟩ .f32} {G u : Nat → Nat → EReal} {l : Nat → EReal}
    (hA : Reads A (fun i j => G j i) 0 0) (hU : Reads U u j0 0) (hD : Reads D (fun _ j => root (l j)) 0 0) (hq : q ≠ 1 := by decide)
    (w₁ : (⟨2, ![1, r]⟩ : Shape).Slices ![0, j0] ⟨2, ![1, q]⟩ := by decide) (w₂ : (⟨2, ![1, q]⟩ : Shape).Broadcasts ⟨2, ![p, q]⟩ := by decide)
    (w₃ : FTy.bits .bf16 < FTy.bits .f32 := by decide) (w₄ : (⟨2, ![p, q]⟩ : Shape).ShapeCasts ⟨2, ![p, q]⟩ := by decide) :
    Reads (shapeCast ⟨2, ![p, q]⟩ (truncf (F := Ideal) .bf16 (mulf (matmul (DotDims.transposedRhs p r q) none A U (constant ⟨2, ![p, q]⟩ .f32 0x00000000#32))
        (broadcastTo ⟨2, ![p, q]⟩ (extractStridedSlice ⟨2, ![1, q]⟩ ![0, j0] D w₁) w₂)) w₃) w₄) (t1N r u G l) 0 j0 := by
  have h := (hD.slice w₁).row w₂ hq 0
  rw [Nat.zero_add] at h
  exact Reads.cast _ (Reads.trunc _ ((rowsRows hA hU).mul h))

/-- A chunk of the second product. -/
theorem t2_chunk {d j0 w o : Nat} {U : FVec Ideal ⟨2, ![d, d]⟩ .bf16} {X : FVec Ideal ⟨2, ![d, w]⟩ .bf16} {D : FVec Ideal ⟨2, ![1, d]⟩ .f32} {u x : Nat → Nat → EReal} {l : Nat → EReal}
    (hU : Reads U u 0 0) (hX : Reads X x 0 j0) (hD : Reads D (fun _ j => root (l j)) 0 0) (hd : d ≠ 1 := by decide)
    (w₁ : (⟨2, ![d, w]⟩ : Shape).Slices ![0, o] ⟨2, ![d, q]⟩ := by decide) (w₂ : (⟨2, ![1, d]⟩ : Shape).ShapeCasts ⟨2, ![1, d]⟩ := by decide)
    (w₃ : (⟨2, ![1, d]⟩ : Shape).Broadcasts ⟨2, ![q, d]⟩ := by decide) (w₄ : (⟨2, ![q, d]⟩ : Shape).Transposes [1, 0] ⟨2, ![d, q]⟩ := by decide)
    (w₅ : FTy.bits .bf16 < FTy.bits .f32 := by decide) (w₆ : (⟨2, ![d, q]⟩ : Shape).ShapeCasts ⟨2, ![d, q]⟩ := by decide) :
    Reads (shapeCast ⟨2, ![d, q]⟩ (truncf (F := Ideal) .bf16 (mulf (extractStridedSlice ⟨2, ![d, q]⟩ ![0, o]
          (matmul (DotDims.plain d d w) none U X (constant ⟨2, ![d, w]⟩ .f32 0x00000000#32)) w₁)
        (transpose ⟨2, ![d, q]⟩ [1, 0] (broadcastTo ⟨2, ![q, d]⟩ (shapeCast ⟨2, ![1, d]⟩ D w₂) w₃) w₄)) w₅) w₆) (t2N d u x l) 0 (j0 + o) :=
  Reads.cast _ (Reads.trunc _ (((rowsCols hU hX).slice w₁).mul (((hD.cast w₂).row w₃ hd (j0 + o)).transpose w₄)))

/-- A strip of the third. -/
theorem t3_strip {r : Nat} {X : FVec Ideal ⟨2, ![p, r]⟩ .bf16} {U : FVec Ideal ⟨2, ![r, q]⟩ .bf16} {x u : Nat → Nat → EReal} (hX : Reads X x 0 0) (hU : Reads U u 0 b)
    (w₁ : FTy.bits .bf16 < FTy.bits .f32 := by decide) (w₂ : (⟨2, ![p, q]⟩ : Shape).ShapeCasts ⟨2, ![p, q]⟩ := by decide) :
    Reads (shapeCast ⟨2, ![p, q]⟩ (truncf (F := Ideal) .bf16 (matmul (DotDims.plain p r q) none X U (constant ⟨2, ![p, q]⟩ .f32 0x00000000#32)) w₁) w₂) (t3N r u x) 0 b :=
  Reads.cast _ (Reads.trunc _ (rowsCols hX hU))

/-- A block of the last. -/
theorem p_core {d : Nat} {X : FVec Ideal ⟨2, ![d, p]⟩ .bf16} {U : FVec Ideal ⟨2, ![d, q]⟩ .bf16} {x u : Nat → Nat → EReal} (hX : Reads X x 0 a) (hU : Reads U u 0 b)
    (w₁ : (⟨2, ![d, p]⟩ : Shape).Transposes [1, 0] ⟨2, ![p, d]⟩ := by decide) :
    Reads (matmul (DotDims.plain p d q) none (transpose ⟨2, ![p, d]⟩ [1, 0] X w₁) U (constant ⟨2, ![p, q]⟩ .f32 0x00000000#32)) (pN d u x) a b :=
  rowsCols (hX.transpose w₁) hU

theorem p_block {d : Nat} {X : FVec Ideal ⟨2, ![d, p]⟩ .bf16} {U : FVec Ideal ⟨2, ![d, q]⟩ .bf16} {x u : Nat → Nat → EReal} (hX : Reads X x 0 a) (hU : Reads U u 0 b)
    (w₁ : (⟨2, ![d, p]⟩ : Shape).Transposes [1, 0] ⟨2, ![p, d]⟩ := by decide) (w₂ : (⟨2, ![p, q]⟩ : Shape).ShapeCasts ⟨3, ![1, p, q]⟩ := by decide) :
    Reads3 (shapeCast ⟨3, ![1, p, q]⟩ (matmul (DotDims.plain p d q) none (transpose ⟨2, ![p, d]⟩ [1, 0] X w₁) U (constant ⟨2, ![p, q]⟩ .f32 0x00000000#32)) w₂) (pN d u x) a b :=
  (p_core hX hU w₁).add3 w₂

/-! ## Three-axis buffers -/

/-- What the stores `L` leave is the matrix `M`, under a leading unit axis. -/
def Holds3 {Val : EltTy → Type} {e : EltTy} [∀ e, Nonempty (Val e)] (L : List (View.Piece Val ⟨3, ![1, p, q]⟩ e)) (M : Nat → Nat → Val e) : Prop :=
  ∀ y, View.canon L y = grid3 M y

section Holds3

variable {Val : EltTy → Type} {e : EltTy} [∀ e, Nonempty (Val e)] {L : List (View.Piece Val ⟨3, ![1, p, q]⟩ e)} {M N : Nat → Nat → Val e} {p' q' : Nat}

theorem Holds3.of (h : View.PiecesOf (grid3 M) L) (c : ∀ y, ∃ pc ∈ L, y ∈ pc.1.set) : Holds3 L M :=
  fun y => View.canon_apply_of_pieces _ L h.mem y (c y)

/-- A load back. -/
theorem Holds3.load {sig : RefSig} {κ : Kind} {sp : Space} (h : Holds3 L M) (v : View sig κ sp ⟨3, ![1, p, q]⟩ e)
    (inb : ∀ c, ![0, a, b] c + ![1, p', q'] c ≤ (⟨3, ![1, p, q]⟩ : Shape).size c) :
    Reads3 (p := p') (q := q') (v.readCov L (Rect.unit (s := ⟨3, ![1, p, q]⟩) ![0, a, b] ![1, p', q'] inb).toLoadRect) M a b := fun u i j => by
  rw [View.readCov_eq_canon']
  refine (h _).trans ?_
  show M (a + 1 * _) (b + 1 * _) = _
  rw [Nat.one_mul, Nat.one_mul]
  rfl

/-- One more store, of whole rows. -/
theorem Holds3.rows (h : Holds3 L M) {inb : ∀ c, ![0, a, 0] c + ![1, p', q] c ≤ (⟨3, ![1, p, q]⟩ : Shape).size c}
    {X : (⟨3, ![1, p', q]⟩ : Shape).Idx → Val e} (hX : Reads3 (p := p') (q := q) X N a 0) (hM : ∀ i j, ¬ (a ≤ i ∧ i < a + p') → M i j = N i j) :
    Holds3 (⟨Rect.unit (s := ⟨3, ![1, p, q]⟩) ![0, a, 0] ![1, p', q] inb, X⟩ :: L) N := fun y => by
  by_cases hy : y ∈ (Rect.unit (s := ⟨3, ![1, p, q]⟩) ![0, a, 0] ![1, p', q] inb).set
  · obtain ⟨x, rfl⟩ := (Rect.unit (s := ⟨3, ![1, p, q]⟩) ![0, a, 0] ![1, p', q] inb).exists_idx_of_mem hy
    exact (View.canon_cons_emb _ _ _ x).trans (Reads3.piece inb hX x)
  · have hn : ¬ (a ≤ (y 1).val ∧ (y 1).val < a + p') := fun hi => hy (Rect.mem_set_unit.mpr fun c => by
      match c with
      | ⟨0, _⟩ => exact ⟨Nat.zero_le _, lt_of_lt_of_eq (y 0).isLt (Nat.zero_add 1).symm⟩
      | ⟨1, _⟩ => exact hi
      | ⟨2, _⟩ => exact ⟨Nat.zero_le _, lt_of_lt_of_eq (y 2).isLt (Nat.zero_add q).symm⟩)
    have e : grid3 M y = grid3 N y := hM (y 1).val (y 2).val hn
    exact (View.canon_cons_of_not_mem ⟨Rect.unit (s := ⟨3, ![1, p, q]⟩) ![0, a, 0] ![1, p', q] inb, X⟩ L hy).trans ((h y).trans e)

end Holds3

end Shampoo

end
-- ==== Proof.Value.Bases.lean ====
/-
  The Gram matrices and the corrected bases in scratch memory.
-/
module

public import proofs.«01_k».proof.Proof.Value.DecodeL
public import proofs.«01_k».proof.Proof.Value.DecodeR
public import proofs.«01_k».proof.Proof.Value.Blocks

@[expose] public section

set_option maxRecDepth 16384
set_option maxHeartbeats 1000000

noncomputable section

namespace Cert.KernelIdeal.Value

open Cert.KernelIdeal Cert.KernelIdeal.Gen Idealize.ShloMosaic Idealize.ShloMosaic.ValueIdx Idealize.ShloMosaic.Tactic Shampoo

section Left

variable (c : Dev nD) (arg3 : Memref sig .tc .vmem S1x1024x512 .i8) (harg3 : arg3.IsWhole) (arg4 : Memref sig .tc .vmem S1x1024x16 .f32) (harg4 : arg4.IsWhole)
variable (arg11 : Memref sig .tc .vmem S1024x1024 .bf16) (arg13 : Memref sig .tc .vmem S1024x1024 .bf16)
variable (x2 : Vec Ideal S1x1024x512 .i8) (x3 : Vec Ideal S1x1024x16 .f32)

/-- The left Gram matrix. -/
theorem holds_EL : Holds (kernelRun0_A.sl.HS2_10 (F := Ideal) c arg3 harg3 arg4 harg4 arg11 x2 x3) (gramN 1024 (VL x2 x3)) := by
  refine Holds.of ?_ (View.cover_of_tiledBy (kernelRun0_A.sl.HS2_10 (F := Ideal) c arg3 harg3 arg4 harg4 arg11 x2 x3) ![256, 256] (by sl_kernel_rfl))
  have h := fun {p q a b} inb => Holds.load (p' := p) (q' := q) (a := a) (b := b) (holds_VL c arg3 harg3 arg4 harg4 x2 x3) arg11.view inb
  unfold kernelRun0_A.sl.HS2_10
  iterate 3
    refine Reads.store (p' := 256) (q' := 256) (gram_diag (h _) (h _)) ?_
    refine Reads.store (gram_lower (h _) (h _)) ?_
    refine Reads.store (gram_upper (h _) (h _)) ?_
  refine Reads.store (p' := 256) (q' := 256) (gram_first (h _)) ?_
  exact stores_nil

/-- The left corrected basis. -/
theorem holds_UL : Holds (kernelRun0_A.sl.HS4_2 (F := Ideal) c arg3 harg3 arg4 harg4 arg11 arg13 x2 x3) (bjorckN 1024 (VL x2 x3)) := by
  refine Holds.of ?_ (View.cover_of_tiledL (kernelRun0_A.sl.HS4_2 (F := Ideal) c arg3 harg3 arg4 harg4 arg11 arg13 x2 x3) S1024x512.size (by sl_kernel_rfl))
  have h := fun {p q a b} inb => Holds.load (p' := p) (q' := q) (a := a) (b := b) (holds_VL c arg3 harg3 arg4 harg4 x2 x3) arg11.view inb
  have hE := fun {p q a b} inb => Holds.load (p' := p) (q' := q) (a := a) (b := b) (holds_EL c arg3 harg3 arg4 harg4 arg11 x2 x3) arg13.view inb
  unfold kernelRun0_A.sl.HS4_2
  iterate 2 refine Reads.store (p' := 1024) (q' := 512) (correct_strip (hE _) (h _)) ?_
  exact stores_nil

end Left

section Right

variable (c : Dev nD) (arg6 : Memref sig .tc .vmem S1x1152x576 .i8) (harg6 : arg6.IsWhole) (arg7 : Memref sig .tc .vmem S1x1152x18 .f32) (harg7 : arg7.IsWhole)
variable (arg12 : Memref sig .tc .vmem S1152x1152 .bf16) (arg14 : Memref sig .tc .vmem S1152x1152 .bf16)
variable (x5 : Vec Ideal S1x1152x576 .i8) (x6 : Vec Ideal S1x1152x18 .f32)

/-- The right Gram matrix. -/
theorem holds_ER : Holds (kernelRun0_A.sl.HS3_13 (F := Ideal) c arg6 harg6 arg7 harg7 arg12 x5 x6) (gramN 1152 (VR x5 x6)) := by
  refine Holds.of ?_ (View.cover_of_tiledBy (kernelRun0_A.sl.HS3_13 (F := Ideal) c arg6 harg6 arg7 harg7 arg12 x5 x6) ![128, 128] (by sl_kernel_rfl))
  have h := fun {p q a b} inb => Holds.load (p' := p) (q' := q) (a := a) (b := b) (holds_VR c arg6 harg6 arg7 harg7 x5 x6) arg12.view inb
  unfold kernelRun0_A.sl.HS3_13
  refine Reads.store (p' := 128) (q' := 128) (gram_diag (h _) (h _)) ?_
  refine Reads.store (gram_lower (h _) (h _)) ?_
  refine Reads.store (gram_upper (h _) (h _)) ?_
  iterate 3
    refine Reads.store (p' := 256) (q' := 256) (gram_diag (h _) (h _)) ?_
    refine Reads.store (gram_lower (h _) (h _)) ?_
    refine Reads.store (gram_upper (h _) (h _)) ?_
  refine Reads.store (p' := 256) (q' := 256) (gram_first (h _)) ?_
  exact stores_nil

/-- The right corrected basis. -/
theorem holds_UR : Holds (kernelRun0_A.sl.HS5_3 (F := Ideal) c arg6 harg6 arg7 harg7 arg12 arg14 x5 x6) (bjorckN 1152 (VR x5 x6)) := by
  refine Holds.of ?_ (View.cover_of_tiledBy (kernelRun0_A.sl.HS5_3 (F := Ideal) c arg6 harg6 arg7 harg7 arg12 arg14 x5 x6) ![1152, 128] (by sl_kernel_rfl))
  have h := fun {p q a b} inb => Holds.load (p' := p) (q' := q) (a := a) (b := b) (holds_VR c arg6 harg6 arg7 harg7 x5 x6) arg12.view inb
  have hE := fun {p q a b} inb => Holds.load (p' := p) (q' := q) (a := a) (b := b) (holds_ER c arg6 harg6 arg7 harg7 arg12 x5 x6) arg14.view inb
  unfold kernelRun0_A.sl.HS5_3
  refine Reads.store (p' := 1152) (q' := 128) (correct_strip (hE _) (h _)) ?_
  iterate 2 refine Reads.store (p' := 1152) (q' := 512) (correct_strip (hE _) (h _)) ?_
  exact stores_nil

end Right

end Cert.KernelIdeal.Value

end
-- ==== Proof.Value.Chain.lean ====
/-
  The gradient through the four products, and the output block of the preconditioned gradient.
-/
module

public import proofs.«01_k».proof.Proof.Value.Bases

@[expose] public section

set_option maxRecDepth 16384
set_option maxHeartbeats 1000000

noncomputable section

namespace Cert.KernelIdeal.Value

open Cert.KernelIdeal Cert.KernelIdeal.Gen Idealize.ShloMosaic Idealize.ShloMosaic.ValueIdx Idealize.ShloMosaic.Tactic Shampoo

/-- The inverse fourth root of each left eigenvalue and each right one. -/
abbrev UL (x2 : Vec Ideal S1x1024x512 .i8) (x3 : Vec Ideal S1x1024x16 .f32) : Nat → Nat → EReal := bjorckN 1024 (VL x2 x3)
abbrev UR (x5 : Vec Ideal S1x1152x576 .i8) (x6 : Vec Ideal S1x1152x18 .f32) : Nat → Nat → EReal := bjorckN 1152 (VR x5 x6)

/-- The four products. -/
abbrev T1 (x0 : Vec Ideal S1x1024x1152 .bf16) (x2 : Vec Ideal S1x1024x512 .i8) (x3 : Vec Ideal S1x1024x16 .f32) (x4 : Vec Ideal S1x1x1024 .f32) : Nat → Nat → EReal :=
  t1N 1024 (UL x2 x3) (matOf (α := EReal) x0) (matOf (α := EReal) x4 0)
abbrev T2 (x0 : Vec Ideal S1x1024x1152 .bf16) (x2 : Vec Ideal S1x1024x512 .i8) (x3 : Vec Ideal S1x1024x16 .f32) (x4 : Vec Ideal S1x1x1024 .f32)
    (x5 : Vec Ideal S1x1152x576 .i8) (x6 : Vec Ideal S1x1152x18 .f32) (x7 : Vec Ideal S1x1x1152 .f32) : Nat → Nat → EReal :=
  t2N 1152 (UR x5 x6) (T1 x0 x2 x3 x4) (matOf (α := EReal) x7 0)
abbrev T3 (x0 : Vec Ideal S1x1024x1152 .bf16) (x2 : Vec Ideal S1x1024x512 .i8) (x3 : Vec Ideal S1x1024x16 .f32) (x4 : Vec Ideal S1x1x1024 .f32)
    (x5 : Vec Ideal S1x1152x576 .i8) (x6 : Vec Ideal S1x1152x18 .f32) (x7 : Vec Ideal S1x1x1152 .f32) : Nat → Nat → EReal :=
  t3N 1024 (UL x2 x3) (T2 x0 x2 x3 x4 x5 x6 x7)
abbrev P (x0 : Vec Ideal S1x1024x1152 .bf16) (x2 : Vec Ideal S1x1024x512 .i8) (x3 : Vec Ideal S1x1024x16 .f32) (x4 : Vec Ideal S1x1x1024 .f32)
    (x5 : Vec Ideal S1x1152x576 .i8) (x6 : Vec Ideal S1x1152x18 .f32) (x7 : Vec Ideal S1x1x1152 .f32) : Nat → Nat → EReal :=
  pN 1152 (UR x5 x6) (T3 x0 x2 x3 x4 x5 x6 x7)

variable (c : Dev nD) (arg1 : Memref sig .tc .vmem S1x1024x1152 .bf16) (harg1 : arg1.IsWhole)
variable (arg3 : Memref sig .tc .vmem S1x1024x512 .i8) (harg3 : arg3.IsWhole) (arg4 : Memref sig .tc .vmem S1x1024x16 .f32) (harg4 : arg4.IsWhole)
variable (arg5 : Memref sig .tc .vmem S1x1x1024 .f32) (harg5 : arg5.IsWhole)
variable (arg6 : Memref sig .tc .vmem S1x1152x576 .i8) (harg6 : arg6.IsWhole) (arg7 : Memref sig .tc .vmem S1x1152x18 .f32) (harg7 : arg7.IsWhole)
variable (arg8 : Memref sig .tc .vmem S1x1x1152 .f32) (harg8 : arg8.IsWhole)
variable (arg11 : Memref sig .tc .vmem S1024x1024 .bf16) (arg12 : Memref sig .tc .vmem S1152x1152 .bf16) (arg13 : Memref sig .tc .vmem S1024x1024 .bf16)
variable (arg14 : Memref sig .tc .vmem S1152x1152 .bf16) (arg15 : Memref sig .tc .vmem S1024x1024 .bf16) (arg16 : Memref sig .tc .vmem S1152x1152 .bf16)
variable (arg17 : Memref sig .tc .vmem S1152x1024 .bf16) (arg18 : Memref sig .tc .vmem S1152x1024 .bf16)
variable (x0 : Vec Ideal S1x1024x1152 .bf16) (x2 : Vec Ideal S1x1024x512 .i8) (x3 : Vec Ideal S1x1024x16 .f32) (x4 : Vec Ideal S1x1x1024 .f32)
variable (x5 : Vec Ideal S1x1152x576 .i8) (x6 : Vec Ideal S1x1152x18 .f32) (x7 : Vec Ideal S1x1x1152 .f32)

/-- The transposed gradient. -/
theorem holds_G : Holds (kernelRun0_A.sl.HS6_9 (F := Ideal) c arg1 harg1 x0) (fun i j => matOf (α := EReal) x0 j i) := by
  refine Holds.of ?_ (View.cover_of_tiledL (kernelRun0_A.sl.HS6_9 (F := Ideal) c arg1 harg1 x0) S128x1024.size (by sl_kernel_rfl))
  unfold kernelRun0_A.sl.HS6_9
  repeat refine Reads.store (p' := 128) (q' := 1024) (flip_chunk (load3 _ _ _ (harg1.read_unread _) _)) ?_
  exact stores_nil

/-- The first product. -/
theorem holds_T1 : Holds (kernelRun0_A.sl.HS7_2 (F := Ideal) c arg1 harg1 arg3 harg3 arg4 harg4 arg5 harg5 arg11 arg13 arg15 arg17 x0 x2 x3 x4) (T1 x0 x2 x3 x4) := by
  refine Holds.of ?_ (View.cover_of_tiledL (kernelRun0_A.sl.HS7_2 (F := Ideal) c arg1 harg1 arg3 harg3 arg4 harg4 arg5 harg5 arg11 arg13 arg15 arg17 x0 x2 x3 x4) S1152x512.size (by sl_kernel_rfl))
  have hG := fun {p q a b} inb => Holds.load (p' := p) (q' := q) (a := a) (b := b) (holds_G c arg1 harg1 x0) arg17.view inb
  have hU := fun {p q a b} inb => Holds.load (p' := p) (q' := q) (a := a) (b := b) (holds_UL c arg3 harg3 arg4 harg4 arg11 arg13 x2 x3) arg15.view inb
  have hD := roots (load3 _ _ _ (harg5.read_unread x4) inb_S1x1x1024_S1x1x1024_0_0_0) shapeCasts_S1x1x1024_S1x1024
  unfold kernelRun0_A.sl.HS7_2
  refine Reads.store (p' := 1152) (q' := 512) (t1_strip (j0 := 512) (hG _) (hU _) hD) ?_
  refine Reads.store (p' := 1152) (q' := 512) (t1_strip (j0 := 0) (hG _) (hU _) hD) ?_
  exact stores_nil

/-- The second, stored over the gradient. -/
theorem holds_T2 : Holds (kernelRun0_A.sl.HS6_17 (F := Ideal) c arg1 harg1 arg3 harg3 arg4 harg4 arg5 harg5 arg6 harg6 arg7 harg7 arg8 harg8 arg11 arg12 arg13 arg14 arg15 arg16 arg17 arg18 x0 x2 x3 x4 x5 x6 x7) (T2 x0 x2 x3 x4 x5 x6 x7) := by
  refine Holds.over (L := (kernelRun0_A.sl.HS6_17 (F := Ideal) c arg1 harg1 arg3 harg3 arg4 harg4 arg5 harg5 arg6 harg6 arg7 harg7 arg8 harg8 arg11 arg12 arg13 arg14 arg15 arg16 arg17 arg18 x0 x2 x3 x4 x5 x6 x7).take 8) (L' := kernelRun0_A.sl.HS6_9 (F := Ideal) c arg1 harg1 x0) ?_
    (View.cover_of_tiledL ((kernelRun0_A.sl.HS6_17 (F := Ideal) c arg1 harg1 arg3 harg3 arg4 harg4 arg5 harg5 arg6 harg6 arg7 harg7 arg8 harg8 arg11 arg12 arg13 arg14 arg15 arg16 arg17 arg18 x0 x2 x3 x4 x5 x6 x7).take 8) S1152x128.size (by sl_kernel_rfl))
  have hT := fun {p q a b} inb => Holds.load (p' := p) (q' := q) (a := a) (b := b) (holds_T1 c arg1 harg1 arg3 harg3 arg4 harg4 arg5 harg5 arg11 arg13 arg15 arg17 x0 x2 x3 x4) arg18.view inb
  have hU := fun {p q a b} inb => Holds.load (p' := p) (q' := q) (a := a) (b := b) (holds_UR c arg6 harg6 arg7 harg7 arg12 arg14 x5 x6) arg16.view inb
  have hD := roots (load3 _ _ _ (harg8.read_unread x7) inb_S1x1x1152_S1x1x1152_0_0_0) shapeCasts_S1x1x1152_S1x1152
  refine Reads.store (p' := 1152) (q' := 128) (t2_chunk (j0 := 512) (o := 384) (hU _) (hT _) hD) ?_
  refine Reads.store (p' := 1152) (q' := 128) (t2_chunk (j0 := 512) (o := 256) (hU _) (hT _) hD) ?_
  refine Reads.store (p' := 1152) (q' := 128) (t2_chunk (j0 := 512) (o := 128) (hU _) (hT _) hD) ?_
  refine Reads.store (p' := 1152) (q' := 128) (t2_chunk (j0 := 512) (o := 0) (hU _) (hT _) hD) ?_
  refine Reads.store (p' := 1152) (q' := 128) (t2_chunk (j0 := 0) (o := 384) (hU _) (hT _) hD) ?_
  refine Reads.store (p' := 1152) (q' := 128) (t2_chunk (j0 := 0) (o := 256) (hU _) (hT _) hD) ?_
  refine Reads.store (p' := 1152) (q' := 128) (t2_chunk (j0 := 0) (o := 128) (hU _) (hT _) hD) ?_
  refine Reads.store (p' := 1152) (q' := 128) (t2_chunk (j0 := 0) (o := 0) (hU _) (hT _) hD) ?_
  exact stores_nil

/-- The third, stored over the first. -/
theorem holds_T3 : Holds (kernelRun0_A.sl.HS7_4 (F := Ideal) c arg1 harg1 arg3 harg3 arg4 harg4 arg5 harg5 arg6 harg6 arg7 harg7 arg8 harg8 arg11 arg12 arg13 arg14 arg15 arg16 arg17 arg18 x0 x2 x3 x4 x5 x6 x7) (T3 x0 x2 x3 x4 x5 x6 x7) := by
  refine Holds.over (L := (kernelRun0_A.sl.HS7_4 (F := Ideal) c arg1 harg1 arg3 harg3 arg4 harg4 arg5 harg5 arg6 harg6 arg7 harg7 arg8 harg8 arg11 arg12 arg13 arg14 arg15 arg16 arg17 arg18 x0 x2 x3 x4 x5 x6 x7).take 2) (L' := kernelRun0_A.sl.HS7_2 (F := Ideal) c arg1 harg1 arg3 harg3 arg4 harg4 arg5 harg5 arg11 arg13 arg15 arg17 x0 x2 x3 x4) ?_
    (View.cover_of_tiledL ((kernelRun0_A.sl.HS7_4 (F := Ideal) c arg1 harg1 arg3 harg3 arg4 harg4 arg5 harg5 arg6 harg6 arg7 harg7 arg8 harg8 arg11 arg12 arg13 arg14 arg15 arg16 arg17 arg18 x0 x2 x3 x4 x5 x6 x7).take 2) S1152x512.size (by sl_kernel_rfl))
  have hT := fun {p q a b} inb => Holds.load (p' := p) (q' := q) (a := a) (b := b) (holds_T2 c arg1 harg1 arg3 harg3 arg4 harg4 arg5 harg5 arg6 harg6 arg7 harg7 arg8 harg8 arg11 arg12 arg13 arg14 arg15 arg16 arg17 arg18 x0 x2 x3 x4 x5 x6 x7) arg17.view inb
  have hU := fun {p q a b} inb => Holds.load (p' := p) (q' := q) (a := a) (b := b) (holds_UL c arg3 harg3 arg4 harg4 arg11 arg13 x2 x3) arg15.view inb
  iterate 2 refine Reads.store (p' := 1152) (q' := 512) (t3_strip (hT _) (hU _)) ?_
  exact stores_nil

/-- The last, in the output block. -/
theorem holds_P : Holds3 (kernelRun0_A.sl.H8_6 (F := Ideal) c arg1 harg1 arg3 harg3 arg4 harg4 arg5 harg5 arg6 harg6 arg7 harg7 arg8 harg8 arg11 arg12 arg13 arg14 arg15 arg16 arg17 arg18 x0 x2 x3 x4 x5 x6 x7) (P x0 x2 x3 x4 x5 x6 x7) := by
  refine Holds3.of ?_ (View.cover_of_tiledBy (kernelRun0_A.sl.H8_6 (F := Ideal) c arg1 harg1 arg3 harg3 arg4 harg4 arg5 harg5 arg6 harg6 arg7 harg7 arg8 harg8 arg11 arg12 arg13 arg14 arg15 arg16 arg17 arg18 x0 x2 x3 x4 x5 x6 x7) ![1, 512, 128] (by sl_kernel_rfl))
  have hT := fun {p q a b} inb => Holds.load (p' := p) (q' := q) (a := a) (b := b) (holds_T3 c arg1 harg1 arg3 harg3 arg4 harg4 arg5 harg5 arg6 harg6 arg7 harg7 arg8 harg8 arg11 arg12 arg13 arg14 arg15 arg16 arg17 arg18 x0 x2 x3 x4 x5 x6 x7) arg18.view inb
  have hU := fun {p q a b} inb => Holds.load (p' := p) (q' := q) (a := a) (b := b) (holds_UR c arg6 harg6 arg7 harg7 arg12 arg14 x5 x6) arg16.view inb
  unfold kernelRun0_A.sl.H8_6
  iterate 2 refine Reads3.store (p' := 512) (q' := 128) (p_block (hT _) (hU _)) ?_
  iterate 4 refine Reads3.store (p' := 512) (q' := 512) (p_block (hT _) (hU _)) ?_
  exact stores_nil

end Cert.KernelIdeal.Value

end
-- ==== Proof.Value.Sums.lean ====
/-
  The kernel's two sums of squares, gathered chunk by chunk, and the scaling by their quotient.
-/
module

public import proofs.«01_k».proof.Proof.Value.Blocks

@[expose] public section

noncomputable section

open scoped BigOperators

namespace Shampoo

open Idealize.ShloMosaic Idealize.ShloMosaic.ValueIdx

/-- The squares in a window, summed. -/
def box (M : Nat → Nat → EReal) (a p b q : Nat) : EReal := ∑ i ∈ Finset.range p, ∑ j ∈ Finset.range q, M (a + i) (b + j) * M (a + i) (b + j)

variable {M : Nat → Nat → EReal} {a b p q : Nat}

theorem box_cols (q' : Nat) : box M a p b q + box M a p (b + q) q' = box M a p b (q + q') := by
  unfold box
  rw [← Finset.sum_add_distrib]
  refine Finset.sum_congr rfl fun i _ => ?_
  rw [Finset.sum_range_add]
  simp only [Nat.add_assoc]

theorem box_rows (p' : Nat) : box M a p b q + box M (a + p) p' b q = box M a (p + p') b q := by
  unfold box
  rw [Finset.sum_range_add]
  simp only [Nat.add_assoc]

theorem box_norm {r d : Nat} {x : Fin r → Fin d → EReal} (h : ∀ (i : Fin r) (c : Fin d), M i c = x i c) : Ideal.sqrt (box M 0 r 0 d) = norm x := by
  unfold box norm
  rw [Finset.sum_range]
  refine congrArg Ideal.sqrt (Finset.sum_congr rfl fun i _ => ?_)
  rw [Finset.sum_range]
  refine Finset.sum_congr rfl fun c _ => ?_
  rw [Nat.zero_add, Nat.zero_add, h]

/-- Eight rows of 128 lanes, with the squares of a chunk folded in. -/
def addSq {n : Nat} (A : FVec Ideal ⟨2, ![8, 128]⟩ .f32) (X : FVec Ideal ⟨2, ![p, 128]⟩ .f32) (w₁ : (⟨2, ![p, 128]⟩ : Shape).ShapeCasts ⟨3, ![n, 8, 128]⟩)
    (w₂ : (⟨3, ![n, 8, 128]⟩ : Shape).Reduces [0] ⟨2, ![8, 128]⟩) : FVec Ideal ⟨2, ![8, 128]⟩ .f32 :=
  addf A (multiReduction .add [0] ⟨2, ![8, 128]⟩ (shapeCast ⟨3, ![n, 8, 128]⟩ (mulf X X) w₁) 0x00000000#32 w₂ (.inl rfl) rfl)

theorem total_addSq {n : Nat} {A : FVec Ideal ⟨2, ![8, 128]⟩ .f32} {X : FVec Ideal ⟨2, ![p, 128]⟩ .f32} {t : EReal} (hA : total A = t) (hX : Reads X M a b)
    (w₁ : (⟨2, ![p, 128]⟩ : Shape).ShapeCasts ⟨3, ![n, 8, 128]⟩) (w₂ : (⟨3, ![n, 8, 128]⟩ : Shape).Reduces [0] ⟨2, ![8, 128]⟩) :
    total (addSq A X w₁ w₂) = t + box M a p b 128 :=
  (total_add _ _).trans (congrArg₂ (fun x y : EReal => x + y) hA ((total_reduce _ _ w₂ (.inl rfl) rfl).trans ((total_cast _ w₁).trans (total_sq hX))))

theorem total_zero : total (broadcast (⟨2, ![8, 128]⟩ : Shape) (Ideal.ofBits .f32 0x00000000#32)) = 0 := by
  unfold total
  refine Finset.sum_eq_zero fun i _ => Ideal.ofBits_zero_f32

/-- A block of four chunks. -/
theorem total_block {n : Nat} {A : FVec Ideal ⟨2, ![8, 128]⟩ .f32} {X : FVec Ideal ⟨2, ![p, 512]⟩ .f32} {t : EReal} (hX : Reads X M a b) (hA : total A = t)
    (w₁ : (⟨2, ![p, 128]⟩ : Shape).ShapeCasts ⟨3, ![n, 8, 128]⟩) (w₂ : (⟨3, ![n, 8, 128]⟩ : Shape).Reduces [0] ⟨2, ![8, 128]⟩)
    (s₀ : (⟨2, ![p, 512]⟩ : Shape).Slices ![0, 0] ⟨2, ![p, 128]⟩) (s₁ : (⟨2, ![p, 512]⟩ : Shape).Slices ![0, 128] ⟨2, ![p, 128]⟩)
    (s₂ : (⟨2, ![p, 512]⟩ : Shape).Slices ![0, 256] ⟨2, ![p, 128]⟩) (s₃ : (⟨2, ![p, 512]⟩ : Shape).Slices ![0, 384] ⟨2, ![p, 128]⟩) :
    total (addSq (addSq (addSq (addSq A (extractStridedSlice ⟨2, ![p, 128]⟩ ![0, 0] X s₀) w₁ w₂) (extractStridedSlice ⟨2, ![p, 128]⟩ ![0, 128] X s₁) w₁ w₂)
      (extractStridedSlice ⟨2, ![p, 128]⟩ ![0, 256] X s₂) w₁ w₂) (extractStridedSlice ⟨2, ![p, 128]⟩ ![0, 384] X s₃) w₁ w₂) = t + box M a p b 512 := by
  refine (total_addSq (total_addSq (total_addSq (total_addSq hA (hX.cols s₀) w₁ w₂) (hX.cols s₁) w₁ w₂) (hX.cols s₂) w₁ w₂) (hX.cols s₃) w₁ w₂).trans ?_
  rw [add_assoc, add_assoc, add_assoc, Nat.add_zero]
  refine congrArg (fun x => t + x) ?_
  rw [← add_assoc, ← add_assoc]
  exact ((congrArg (fun x => x + _ + _) (box_cols 128)).trans (congrArg (fun x => x + _) (box_cols 128))).trans (box_cols 128)

/-- Whole rows, nine chunks. -/
theorem total_rows {n : Nat} {A : FVec Ideal ⟨2, ![8, 128]⟩ .f32} {X : FVec Ideal ⟨2, ![p, 1152]⟩ .f32} (hX : Reads X M a 0) (hA : total A = box M 0 a 0 1152)
    (w₁ : (⟨2, ![p, 128]⟩ : Shape).ShapeCasts ⟨3, ![n, 8, 128]⟩) (w₂ : (⟨3, ![n, 8, 128]⟩ : Shape).Reduces [0] ⟨2, ![8, 128]⟩)
    (s₀ : (⟨2, ![p, 1152]⟩ : Shape).Slices ![0, 0] ⟨2, ![p, 128]⟩) (s₁ : (⟨2, ![p, 1152]⟩ : Shape).Slices ![0, 128] ⟨2, ![p, 128]⟩)
    (s₂ : (⟨2, ![p, 1152]⟩ : Shape).Slices ![0, 256] ⟨2, ![p, 128]⟩) (s₃ : (⟨2, ![p, 1152]⟩ : Shape).Slices ![0, 384] ⟨2, ![p, 128]⟩)
    (s₄ : (⟨2, ![p, 1152]⟩ : Shape).Slices ![0, 512] ⟨2, ![p, 128]⟩) (s₅ : (⟨2, ![p, 1152]⟩ : Shape).Slices ![0, 640] ⟨2, ![p, 128]⟩)
    (s₆ : (⟨2, ![p, 1152]⟩ : Shape).Slices ![0, 768] ⟨2, ![p, 128]⟩) (s₇ : (⟨2, ![p, 1152]⟩ : Shape).Slices ![0, 896] ⟨2, ![p, 128]⟩)
    (s₈ : (⟨2, ![p, 1152]⟩ : Shape).Slices ![0, 1024] ⟨2, ![p, 128]⟩) :
    total (addSq (addSq (addSq (addSq (addSq (addSq (addSq (addSq (addSq A
      (extractStridedSlice ⟨2, ![p, 128]⟩ ![0, 0] X s₀) w₁ w₂) (extractStridedSlice ⟨2, ![p, 128]⟩ ![0, 128] X s₁) w₁ w₂)
      (extractStridedSlice ⟨2, ![p, 128]⟩ ![0, 256] X s₂) w₁ w₂) (extractStridedSlice ⟨2, ![p, 128]⟩ ![0, 384] X s₃) w₁ w₂)
      (extractStridedSlice ⟨2, ![p, 128]⟩ ![0, 512] X s₄) w₁ w₂) (extractStridedSlice ⟨2, ![p, 128]⟩ ![0, 640] X s₅) w₁ w₂)
      (extractStridedSlice ⟨2, ![p, 128]⟩ ![0, 768] X s₆) w₁ w₂) (extractStridedSlice ⟨2, ![p, 128]⟩ ![0, 896] X s₇) w₁ w₂)
      (extractStridedSlice ⟨2, ![p, 128]⟩ ![0, 1024] X s₈) w₁ w₂) = box M 0 (a + p) 0 1152 := by
  refine (total_addSq (total_addSq (total_addSq (total_addSq (total_addSq (total_addSq (total_addSq (total_addSq (total_addSq hA
    (hX.cols s₀) w₁ w₂) (hX.cols s₁) w₁ w₂) (hX.cols s₂) w₁ w₂) (hX.cols s₃) w₁ w₂) (hX.cols s₄) w₁ w₂) (hX.cols s₅) w₁ w₂) (hX.cols s₆) w₁ w₂)
    (hX.cols s₇) w₁ w₂) (hX.cols s₈) w₁ w₂).trans ?_
  have e : ∀ (t : EReal) (o : Nat), (t + box M a p 0 o) + box M a p (0 + o) 128 = t + box M a p 0 (o + 128) := fun t o => by
    rw [add_assoc, box_cols]
  have e₀ := e (box M 0 a 0 1152)
  rw [Nat.add_zero, e₀ 128, e₀ 256, e₀ 384, e₀ 512, e₀ 640, e₀ 768, e₀ 896, e₀ 1024]
  have r := box_rows (M := M) (a := 0) (p := a) (b := 0) (q := 1152) p
  rw [Nat.zero_add] at r
  exact r

/-- The total of the 8 by 128 partial sums, as the kernel takes it out. -/
theorem total_out (v : FVec Ideal ⟨2, ![8, 128]⟩ .f32) (w₁ : (⟨2, ![8, 128]⟩ : Shape).ShapeCasts ⟨3, ![1, 8, 128]⟩)
    (w₂ : (⟨3, ![1, 8, 128]⟩ : Shape).Reduces [1, 2] ⟨1, ![1]⟩) (w₃ : (⟨1, ![1]⟩ : Shape).ShapeCasts ⟨3, ![1, 1, 1]⟩) (w₄ : ∀ a, ![0, 0, 0] a < (⟨3, ![1, 1, 1]⟩ : Shape).size a) :
    extractAt ![0, 0, 0] (shapeCast ⟨3, ![1, 1, 1]⟩ (multiReduction .add [1, 2] ⟨1, ![1]⟩ (shapeCast ⟨3, ![1, 8, 128]⟩ v w₁) 0x00000000#32 w₂ (.inl rfl) rfl) w₃) w₄ = total v := by
  rw [← total_cast v w₁, ← total_reduce (shapeCast ⟨3, ![1, 8, 128]⟩ v w₁) 0x00000000#32 w₂ (.inl rfl) rfl, ← total_cast _ w₃]
  generalize (shapeCast ⟨3, ![1, 1, 1]⟩ (multiReduction .add [1, 2] ⟨1, ![1]⟩ (shapeCast ⟨3, ![1, 8, 128]⟩ v w₁) 0x00000000#32 w₂ (.inl rfl) rfl) w₃ : FVec Ideal ⟨3, ![1, 1, 1]⟩ .f32) = y
  refine (Fintype.sum_eq_single (f := y) (fun a => ⟨![0, 0, 0] a, w₄ a⟩) fun j hj => absurd (funext fun c => Fin.ext ?_) hj).symm
  match c with
  | ⟨0, _⟩ => exact Nat.lt_one_iff.mp (j 0).isLt
  | ⟨1, _⟩ => exact Nat.lt_one_iff.mp (j 1).isLt
  | ⟨2, _⟩ => exact Nat.lt_one_iff.mp (j 2).isLt

/-- The adaptive direction, in a window. -/
theorem ada_tile {D : Vec Ideal ⟨3, ![1, p, q]⟩ .f32} {C' : Vec Ideal ⟨3, ![1, p, q]⟩ .bf16} {G S : Nat → Nat → EReal} (hC : Reads3 (α := EReal) C' G a b) (hD : Reads3 (α := EReal) D S a b)
    (w₁ : (⟨3, ![1, p, q]⟩ : Shape).ShapeCasts ⟨2, ![p, q]⟩ := by decide) (w₂ : FTy.bits .bf16 < FTy.bits .f32 := by decide) :
    Reads (divf (F := Ideal) (φ := .f32) (extf .f32 (shapeCast ⟨2, ![p, q]⟩ C' w₁) w₂)
      (addf (sqrt (shapeCast ⟨2, ![p, q]⟩ D w₁)) (broadcast ⟨2, ![p, q]⟩ (Ideal.ofBits .f32 0x322BCC77#32)))) (fun i j => adaOf (G i j) (S i j)) a b :=
  ((hC.drop w₁).ext w₂).map₂ (fun g s => adaOf g s) (hD.drop w₁)

/-- Rows of the preconditioned gradient, scaled. -/
theorem scale_rows {C : Vec Ideal ⟨3, ![1, p, q]⟩ .f32} {s : EReal} (hC : Reads3 (α := EReal) C M a b)
    (w₁ : (⟨3, ![1, p, q]⟩ : Shape).ShapeCasts ⟨2, ![p, q]⟩ := by decide) (w₂ : (⟨2, ![p, q]⟩ : Shape).ShapeCasts ⟨3, ![1, p, q]⟩ := by decide) :
    Reads3 (shapeCast ⟨3, ![1, p, q]⟩ (mulf (F := Ideal) (φ := .f32) (shapeCast ⟨2, ![p, q]⟩ C w₁) (broadcast ⟨2, ![p, q]⟩ s)) w₂) (fun i j => M i j * s) a b :=
  ((hC.drop w₁).mul (Reads.const s a b)).add3 w₂

/-- The output block with its first `a` rows scaled. -/
def upd (M : Nat → Nat → EReal) (s : EReal) (a i c : Nat) : EReal := if i < a then M i c * s else M i c

theorem upd_zero (s : EReal) : upd M s 0 = M := funext fun i => funext fun _ => if_neg (Nat.not_lt_zero i)

/-- One more strip of rows scaled in place. -/
theorem Holds3.scale {sig : RefSig} {κ : Kind} {sp : Space} {s : EReal} {L : List (View.Piece (Elt Ideal) ⟨3, ![1, p, q]⟩ .f32)} (h : Holds3 L (upd M s a))
    {v : View sig κ sp ⟨3, ![1, p, q]⟩ .f32} {p' : Nat} {inb inb' : ∀ c, ![0, a, 0] c + ![1, p', q] c ≤ (⟨3, ![1, p, q]⟩ : Shape).size c}
    (w₁ : (⟨3, ![1, p', q]⟩ : Shape).ShapeCasts ⟨2, ![p', q]⟩ := by decide) (w₂ : (⟨2, ![p', q]⟩ : Shape).ShapeCasts ⟨3, ![1, p', q]⟩ := by decide) :
    Holds3 (⟨Rect.unit (s := ⟨3, ![1, p, q]⟩) ![0, a, 0] ![1, p', q] inb, shapeCast ⟨3, ![1, p', q]⟩ (mulf (F := Ideal) (φ := .f32)
      (shapeCast ⟨2, ![p', q]⟩ (v.readCov L (Rect.unit (s := ⟨3, ![1, p, q]⟩) ![0, a, 0] ![1, p', q] inb').toLoadRect) w₁) (broadcast ⟨2, ![p', q]⟩ s)) w₂⟩ :: L)
      (upd M s (a + p')) := by
  refine h.rows (fun u i j => (scale_rows (h.load v inb') w₁ w₂ u i j).trans ?_) fun i j hi => ?_
  · show upd M s a (a + i.val) (0 + j.val) * s = upd M s (a + p') (a + i.val) (0 + j.val)
    have := i.isLt
    unfold upd
    rw [if_neg (by omega), if_pos (by omega)]
  · show upd M s a i j = upd M s (a + p') i j
    unfold upd
    by_cases h₁ : i < a
    · rw [if_pos h₁, if_pos (by omega)]
    · rw [if_neg h₁, if_neg (by omega)]

end Shampoo

end
-- ==== Proof.Value.Out.lean ====
/-
  The two blocks a grid point writes: the adaptive direction and the grafted update.
-/
module

public import proofs.«01_k».proof.Proof.Value.Chain
public import proofs.«01_k».proof.Proof.Value.Sums

@[expose] public section

set_option maxRecDepth 16384
set_option maxHeartbeats 1000000

noncomputable section

namespace Cert.KernelIdeal.Value

open Cert.KernelIdeal Cert.KernelIdeal.Gen Idealize.ShloMosaic Idealize.ShloMosaic.ValueIdx Idealize.ShloMosaic.Tactic Shampoo

/-- The adaptive direction. -/
abbrev A (x0 : Vec Ideal S1x1024x1152 .bf16) (x1 : Vec Ideal S1x1024x1152 .f32) : Nat → Nat → EReal :=
  fun i j => adaOf (matOf (α := EReal) x0 i j) (matOf (α := EReal) x1 i j)

variable (c : Dev nD) (arg1 : Memref sig .tc .vmem S1x1024x1152 .bf16) (harg1 : arg1.IsWhole)
variable (arg2 : Memref sig .tc .vmem S1x1024x1152 .f32) (harg2 : arg2.IsWhole)
variable (arg3 : Memref sig .tc .vmem S1x1024x512 .i8) (harg3 : arg3.IsWhole) (arg4 : Memref sig .tc .vmem S1x1024x16 .f32) (harg4 : arg4.IsWhole)
variable (arg5 : Memref sig .tc .vmem S1x1x1024 .f32) (harg5 : arg5.IsWhole)
variable (arg6 : Memref sig .tc .vmem S1x1152x576 .i8) (harg6 : arg6.IsWhole) (arg7 : Memref sig .tc .vmem S1x1152x18 .f32) (harg7 : arg7.IsWhole)
variable (arg8 : Memref sig .tc .vmem S1x1x1152 .f32) (harg8 : arg8.IsWhole)
variable (arg9 : Memref sig .tc .vmem S1x1024x1152 .f32) (harg9 : arg9.IsWhole) (arg10 : Memref sig .tc .vmem S1x1024x1152 .f32) (harg10 : arg10.IsWhole)
variable (arg11 : Memref sig .tc .vmem S1024x1024 .bf16) (arg12 : Memref sig .tc .vmem S1152x1152 .bf16) (arg13 : Memref sig .tc .vmem S1024x1024 .bf16)
variable (arg14 : Memref sig .tc .vmem S1152x1152 .bf16) (arg15 : Memref sig .tc .vmem S1024x1024 .bf16) (arg16 : Memref sig .tc .vmem S1152x1152 .bf16)
variable (arg17 : Memref sig .tc .vmem S1152x1024 .bf16) (arg18 : Memref sig .tc .vmem S1152x1024 .bf16)
variable (x0 : Vec Ideal S1x1024x1152 .bf16) (x1 : Vec Ideal S1x1024x1152 .f32) (x2 : Vec Ideal S1x1024x512 .i8) (x3 : Vec Ideal S1x1024x16 .f32) (x4 : Vec Ideal S1x1x1024 .f32)
variable (x5 : Vec Ideal S1x1152x576 .i8) (x6 : Vec Ideal S1x1152x18 .f32) (x7 : Vec Ideal S1x1x1152 .f32)

/-- The squares of the adaptive direction, summed. -/
theorem total_A : total (kernelRun0_A.sl.v4941 (F := Ideal) c arg1 harg1 arg2 harg2 x0 x1) = box (A x0 x1) 0 1024 0 1152 := by
  refine total_rows (a := 960) (p := 64) (n := 8) (ada_tile (load3 _ _ _ (harg1.read_unread _) _) (load3 _ _ _ (harg2.read_unread _) _)) ?_ (by decide) (by decide) (by decide) (by decide) (by decide) (by decide) (by decide) (by decide) (by decide) (by decide) (by decide)
  refine total_rows (a := 896) (p := 64) (n := 8) (ada_tile (load3 _ _ _ (harg1.read_unread _) _) (load3 _ _ _ (harg2.read_unread _) _)) ?_ (by decide) (by decide) (by decide) (by decide) (by decide) (by decide) (by decide) (by decide) (by decide) (by decide) (by decide)
  refine total_rows (a := 832) (p := 64) (n := 8) (ada_tile (load3 _ _ _ (harg1.read_unread _) _) (load3 _ _ _ (harg2.read_unread _) _)) ?_ (by decide) (by decide) (by decide) (by decide) (by decide) (by decide) (by decide) (by decide) (by decide) (by decide) (by decide)
  refine total_rows (a := 768) (p := 64) (n := 8) (ada_tile (load3 _ _ _ (harg1.read_unread _) _) (load3 _ _ _ (harg2.read_unread _) _)) ?_ (by decide) (by decide) (by decide) (by decide) (by decide) (by decide) (by decide) (by decide) (by decide) (by decide) (by decide)
  refine total_rows (a := 704) (p := 64) (n := 8) (ada_tile (load3 _ _ _ (harg1.read_unread _) _) (load3 _ _ _ (harg2.read_unread _) _)) ?_ (by decide) (by decide) (by decide) (by decide) (by decide) (by decide) (by decide) (by decide) (by decide) (by decide) (by decide)
  refine total_rows (a := 640) (p := 64) (n := 8) (ada_tile (load3 _ _ _ (harg1.read_unread _) _) (load3 _ _ _ (harg2.read_unread _) _)) ?_ (by decide) (by decide) (by decide) (by decide) (by decide) (by decide) (by decide) (by decide) (by decide) (by decide) (by decide)
  refine total_rows (a := 576) (p := 64) (n := 8) (ada_tile (load3 _ _ _ (harg1.read_unread _) _) (load3 _ _ _ (harg2.read_unread _) _)) ?_ (by decide) (by decide) (by decide) (by decide) (by decide) (by decide) (by decide) (by decide) (by decide) (by decide) (by decide)
  refine total_rows (a := 512) (p := 64) (n := 8) (ada_tile (load3 _ _ _ (harg1.read_unread _) _) (load3 _ _ _ (harg2.read_unread _) _)) ?_ (by decide) (by decide) (by decide) (by decide) (by decide) (by decide) (by decide) (by decide) (by decide) (by decide) (by decide)
  refine total_rows (a := 448) (p := 64) (n := 8) (ada_tile (load3 _ _ _ (harg1.read_unread _) _) (load3 _ _ _ (harg2.read_unread _) _)) ?_ (by decide) (by decide) (by decide) (by decide) (by decide) (by decide) (by decide) (by decide) (by decide) (by decide) (by decide)
  refine total_rows (a := 384) (p := 64) (n := 8) (ada_tile (load3 _ _ _ (harg1.read_unread _) _) (load3 _ _ _ (harg2.read_unread _) _)) ?_ (by decide) (by decide) (by decide) (by decide) (by decide) (by decide) (by decide) (by decide) (by decide) (by decide) (by decide)
  refine total_rows (a := 320) (p := 64) (n := 8) (ada_tile (load3 _ _ _ (harg1.read_unread _) _) (load3 _ _ _ (harg2.read_unread _) _)) ?_ (by decide) (by decide) (by decide) (by decide) (by decide) (by decide) (by decide) (by decide) (by decide) (by decide) (by decide)
  refine total_rows (a := 256) (p := 64) (n := 8) (ada_tile (load3 _ _ _ (harg1.read_unread _) _) (load3 _ _ _ (harg2.read_unread _) _)) ?_ (by decide) (by decide) (by decide) (by decide) (by decide) (by decide) (by decide) (by decide) (by decide) (by decide) (by decide)
  refine total_rows (a := 192) (p := 64) (n := 8) (ada_tile (load3 _ _ _ (harg1.read_unread _) _) (load3 _ _ _ (harg2.read_unread _) _)) ?_ (by decide) (by decide) (by decide) (by decide) (by decide) (by decide) (by decide) (by decide) (by decide) (by decide) (by decide)
  refine total_rows (a := 128) (p := 64) (n := 8) (ada_tile (load3 _ _ _ (harg1.read_unread _) _) (load3 _ _ _ (harg2.read_unread _) _)) ?_ (by decide) (by decide) (by decide) (by decide) (by decide) (by decide) (by decide) (by decide) (by decide) (by decide) (by decide)
  refine total_rows (a := 64) (p := 64) (n := 8) (ada_tile (load3 _ _ _ (harg1.read_unread _) _) (load3 _ _ _ (harg2.read_unread _) _)) ?_ (by decide) (by decide) (by decide) (by decide) (by decide) (by decide) (by decide) (by decide) (by decide) (by decide) (by decide)
  refine total_rows (a := 0) (p := 64) (n := 8) (ada_tile (load3 _ _ _ (harg1.read_unread _) _) (load3 _ _ _ (harg2.read_unread _) _)) ?_ (by decide) (by decide) (by decide) (by decide) (by decide) (by decide) (by decide) (by decide) (by decide) (by decide) (by decide)
  exact total_zero

/-- The squares of the preconditioned gradient, summed over the first four blocks. -/
theorem total_P : total (addSq (n := 64) (addSq (n := 64) (addf (kernelRun0_A.sl.r_68 (F := Ideal) c arg1 harg1 arg3 harg3 arg4 harg4 arg5 harg5 arg6 harg6 arg7 harg7 arg8 harg8 arg11 arg12 arg13 arg14 arg15 arg16 arg17 arg18 x0 x2 x3 x4 x5 x6 x7) (kernelRun0_A.sl.r_69 (F := Ideal) c arg1 harg1 arg3 harg3 arg4 harg4 arg5 harg5 arg6 harg6 arg7 harg7 arg8 harg8 arg11 arg12 arg13 arg14 arg15 arg16 arg17 arg18 x0 x2 x3 x4 x5 x6 x7))
    (k0_pay761 (F := Ideal) (kernelRun0_A.sl.v5105 (F := Ideal) c arg1 harg1 arg3 harg3 arg4 harg4 arg5 harg5 arg6 harg6 arg7 harg7 arg8 harg8 arg11 arg12 arg13 arg14 arg15 arg16 arg17 arg18 x0 x2 x3 x4 x5 x6 x7) (kernelRun0_A.sl.v5215 (F := Ideal) c arg6 harg6 arg7 harg7 arg12 arg14 arg16 x5 x6)) (by decide) (by decide))
    (k0_pay763 (F := Ideal) (kernelRun0_A.sl.v5132 (F := Ideal) c arg1 harg1 arg3 harg3 arg4 harg4 arg5 harg5 arg6 harg6 arg7 harg7 arg8 harg8 arg11 arg12 arg13 arg14 arg15 arg16 arg17 arg18 x0 x2 x3 x4 x5 x6 x7) (kernelRun0_A.sl.v5215 (F := Ideal) c arg6 harg6 arg7 harg7 arg12 arg14 arg16 x5 x6)) (by decide) (by decide))
    = box (P x0 x2 x3 x4 x5 x6 x7) 0 1024 0 1152 := by
  have hT := fun {p q a b} inb => Holds.load (p' := p) (q' := q) (a := a) (b := b) (holds_T3 c arg1 harg1 arg3 harg3 arg4 harg4 arg5 harg5 arg6 harg6 arg7 harg7 arg8 harg8 arg11 arg12 arg13 arg14 arg15 arg16 arg17 arg18 x0 x2 x3 x4 x5 x6 x7) arg18.view inb
  have hU := fun {p q a b} inb => Holds.load (p' := p) (q' := q) (a := a) (b := b) (holds_UR c arg6 harg6 arg7 harg7 arg12 arg14 x5 x6) arg16.view inb
  refine (total_addSq (M := P x0 x2 x3 x4 x5 x6 x7) (a := 512) (b := 1024) (t := box (P x0 x2 x3 x4 x5 x6 x7) 0 1024 0 1024 + box (P x0 x2 x3 x4 x5 x6 x7) 0 512 1024 128)
    (total_addSq (M := P x0 x2 x3 x4 x5 x6 x7) (a := 0) (b := 1024) ?_ (p_core (hT _) (hU _)) _ _) (p_core (hT _) (hU _)) _ _).trans ?_
  · refine (total_block (p := 512) (n := 64) (M := P x0 x2 x3 x4 x5 x6 x7) (a := 512) (b := 512) (p_core (hT _) (hU _))
      (total_block (p := 512) (n := 64) (M := P x0 x2 x3 x4 x5 x6 x7) (a := 0) (b := 512) (p_core (hT _) (hU _))
        (total_block (p := 512) (n := 64) (M := P x0 x2 x3 x4 x5 x6 x7) (a := 512) (b := 0) (p_core (hT _) (hU _))
          (total_block (p := 512) (n := 64) (M := P x0 x2 x3 x4 x5 x6 x7) (a := 0) (b := 0) (p_core (hT _) (hU _)) total_zero
            (by decide) (by decide) (by decide) (by decide) (by decide) (by decide))
          (by decide) (by decide) (by decide) (by decide) (by decide) (by decide))
        (by decide) (by decide) (by decide) (by decide) (by decide) (by decide))
      (by decide) (by decide) (by decide) (by decide) (by decide) (by decide)).trans ?_
    have e := box_rows (M := P x0 x2 x3 x4 x5 x6 x7) (a := 0) (p := 512) (b := 0) (q := 512) 512
    have e' := box_rows (M := P x0 x2 x3 x4 x5 x6 x7) (a := 0) (p := 512) (b := 512) (q := 512) 512
    have e'' := box_cols (M := P x0 x2 x3 x4 x5 x6 x7) (a := 0) (p := 1024) (b := 0) (q := 512) 512
    rw [zero_add, add_assoc]
    exact (congrArg₂ (fun x y : EReal => x + y) e e').trans e''
  · have e := box_rows (M := P x0 x2 x3 x4 x5 x6 x7) (a := 0) (p := 512) (b := 1024) (q := 128) 512
    have e' := box_cols (M := P x0 x2 x3 x4 x5 x6 x7) (a := 0) (p := 1024) (b := 0) (q := 1024) 128
    rw [add_assoc]
    exact (congrArg (fun x : EReal => box (P x0 x2 x3 x4 x5 x6 x7) 0 1024 0 1024 + x) e).trans e'

/-- The quotient of the two norms. -/
theorem quotient : kernelRun0_A.sl.r_70 (F := Ideal) c arg1 harg1 arg2 harg2 arg3 harg3 arg4 harg4 arg5 harg5 arg6 harg6 arg7 harg7 arg8 harg8 arg11 arg12 arg13 arg14 arg15 arg16 arg17 arg18 x0 x1 x2 x3 x4 x5 x6 x7
    = Ideal.div (Ideal.sqrt (box (A x0 x1) 0 1024 0 1152)) (Ideal.sqrt (box (P x0 x2 x3 x4 x5 x6 x7) 0 1024 0 1152)) :=
  congrArg₂ (fun x y => Ideal.div (Ideal.sqrt x) (Ideal.sqrt y)) ((total_out _ _ _ _ _).trans (total_A c arg1 harg1 arg2 harg2 x0 x1)) ((total_out _ _ _ _ _).trans (total_P c arg1 harg1 arg3 harg3 arg4 harg4 arg5 harg5 arg6 harg6 arg7 harg7 arg8 harg8 arg11 arg12 arg13 arg14 arg15 arg16 arg17 arg18 x0 x2 x3 x4 x5 x6 x7))

variable (harg11 : arg11.IsWhole) (harg12 : arg12.IsWhole) (harg13 : arg13.IsWhole) (harg14 : arg14.IsWhole) (harg15 : arg15.IsWhole)
variable (harg16 : arg16.IsWhole) (harg17 : arg17.IsWhole) (harg18 : arg18.IsWhole) (i : grid0.Coords)

/-- The adaptive block. -/
theorem ada_block : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 = grid3 (A x0 x1) := by
  funext y
  unfold out0_A_9
  rw [View.read_writes_junk_eq_canon]
  refine Holds3.of (M := A x0 x1) ?_ (cover0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7) y
  iterate 16 refine Reads3.store (p' := 64) (q' := 1152) ((ada_tile (load3 _ _ _ (harg1.read_unread _) _) (load3 _ _ _ (harg2.read_unread _) _)).add3 (by decide)) ?_
  exact stores_nil

/-- The update block. -/
theorem upd_block : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7
    = grid3 (upd (P x0 x2 x3 x4 x5 x6 x7) (kernelRun0_A.sl.r_70 (F := Ideal) c arg1 harg1 arg2 harg2 arg3 harg3 arg4 harg4 arg5 harg5 arg6 harg6 arg7 harg7 arg8 harg8 arg11 arg12 arg13 arg14 arg15 arg16 arg17 arg18 x0 x1 x2 x3 x4 x5 x6 x7) 1024) := by
  funext y
  unfold out0_A_8
  rw [View.read_writes_junk_eq_canon]
  refine (?_ : Holds3 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7).1 (upd (P x0 x2 x3 x4 x5 x6 x7) (kernelRun0_A.sl.r_70 (F := Ideal) c arg1 harg1 arg2 harg2 arg3 harg3 arg4 harg4 arg5 harg5 arg6 harg6 arg7 harg7 arg8 harg8 arg11 arg12 arg13 arg14 arg15 arg16 arg17 arg18 x0 x1 x2 x3 x4 x5 x6 x7) 1024)) y
  refine Holds3.scale (a := 960) (p' := 64) (q := 1152) ?_
  refine Holds3.scale (a := 896) (p' := 64) (q := 1152) ?_
  refine Holds3.scale (a := 832) (p' := 64) (q := 1152) ?_
  refine Holds3.scale (a := 768) (p' := 64) (q := 1152) ?_
  refine Holds3.scale (a := 704) (p' := 64) (q := 1152) ?_
  refine Holds3.scale (a := 640) (p' := 64) (q := 1152) ?_
  refine Holds3.scale (a := 576) (p' := 64) (q := 1152) ?_
  refine Holds3.scale (a := 512) (p' := 64) (q := 1152) ?_
  refine Holds3.scale (a := 448) (p' := 64) (q := 1152) ?_
  refine Holds3.scale (a := 384) (p' := 64) (q := 1152) ?_
  refine Holds3.scale (a := 320) (p' := 64) (q := 1152) ?_
  refine Holds3.scale (a := 256) (p' := 64) (q := 1152) ?_
  refine Holds3.scale (a := 192) (p' := 64) (q := 1152) ?_
  refine Holds3.scale (a := 128) (p' := 64) (q := 1152) ?_
  refine Holds3.scale (a := 64) (p' := 64) (q := 1152) ?_
  refine Holds3.scale (a := 0) (p' := 64) (q := 1152) ?_
  exact (congrArg (Holds3 _) (upd_zero _)).mpr (holds_P c arg1 harg1 arg3 harg3 arg4 harg4 arg5 harg5 arg6 harg6 arg7 harg7 arg8 harg8 arg11 arg12 arg13 arg14 arg15 arg16 arg17 arg18 x0 x2 x3 x4 x5 x6 x7)

end Cert.KernelIdeal.Value

end
-- ==== Proof.Value.RefCore.lean ====
/-
  What the reference's two bases hold, element by element: the decoded codes and the Björck step of them.
-/
module

public import proofs.«01_k».proof.Proof.Value.Spec
public import proofs.«01_k».proof.Proof.Gen.ReferenceIdeal.Read

@[expose] public section

noncomputable section

open scoped BigOperators

namespace Cert.ReferenceIdeal.Value

open Cert.ReferenceIdeal Cert.ReferenceIdeal.Gen Cert.ReferenceIdeal.Read Idealize.ShloMosaic Idealize.ShloMosaic.ValueIdx Shampoo

/-- A comparison of two small coordinates, read as a number: one where they agree. -/
theorem eye_apply {a b : Nat} (ha : a < 2 ^ 32) (hb : b < 2 ^ 32) :
    FloatOps.uitofp (F := Ideal) .f32 (IntOp.cmpi .eq (IntOp.addi (BitVec.ofNat 32 a) 0#32) (BitVec.ofNat 32 b))
      = if a = b then (1 : EReal) else 0 := by
  by_cases h : a = b
  · subst h
    rw [if_pos rfl]
    show (((IntOp.cmpi .eq (IntOp.addi (BitVec.ofNat 32 a) 0#32) (BitVec.ofNat 32 a)).toNat : ℝ) : EReal) = 1
    simp [IntOp.cmpi, IntOp.addi]
  · have h' : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h]
    show (((IntOp.cmpi .eq (IntOp.addi (BitVec.ofNat 32 a) 0#32) (BitVec.ofNat 32 b)).toNat : ℝ) : EReal) = 0
    rw [show IntOp.addi (BitVec.ofNat 32 a) 0#32 = BitVec.ofNat 32 a from by simp [IntOp.addi]]
    show (((BitVec.ofBool (BitVec.ofNat 32 a == BitVec.ofNat 32 b)).toNat : ℝ) : EReal) = 0
    rw [beq_eq_false_iff_ne.mpr h']
    simp

/-! ## The left basis -/

section Left
variable (x2 : (⟨S24x1024x512, .i8⟩ : BufTy).Contents (Elt Ideal)) (x3 : (⟨S24x1024x16, .f32⟩ : BufTy).Contents (Elt Ideal))
variable (t : Fin 24)

/-- The decoded left basis of one element of the batch. -/
abbrev decL : Fin 1024 → Fin 1024 → EReal :=
  dec (n := 1024) (half := 512) (ng := 16) rfl rfl (fun i k => x2 (ix3 t i k)) (fun i g => x3 (ix3 t i g))

theorem low_apply (i : Fin 1024) (k : Fin 512) : val_main_v7 (F := Ideal) x2 (ix3 t i k) = nib (x2 (ix3 t i k)) 0 := by
  rw [val_main_v7_apply, val_main_v4_apply, val_main_v6_apply, val_main_v2_apply, val_main_v0_apply, val_main_v1_apply, val_main_v3_apply,
    val_main_v5_apply, val_main_c_apply, val_main_c_0_apply, val_main_c_1_apply]
  exact nib_low _

theorem high_apply (i : Fin 1024) (k : Fin 512) : val_main_v14 (F := Ideal) x2 (ix3 t i k) = nib (x2 (ix3 t i k)) 1 := by
  rw [val_main_v14_apply, val_main_v11_apply, val_main_v13_apply, val_main_v9_apply, val_main_v0_apply, val_main_v8_apply, val_main_v10_apply,
    val_main_v12_apply, val_main_c_2_apply, val_main_c_3_apply, val_main_c_4_apply]
  exact nib_high _

theorem stack_apply (i : Fin 1024) (q : Fin 2) (k : Fin 512) :
    val_main_v17 (F := Ideal) x2 (ix4 t i q k) = nib (x2 (ix3 t i k)) q.val := by
  unfold val_main_v17
  by_cases hq : q.val = 0
  · rw [concatenate_pair_apply_left (t := S24x1024x2x512) (s₁ := S24x1024x1x512) (s₂ := S24x1024x1x512) 2 _ _ _ (ix4 t i q k) rfl (ix4 t i (0 : Fin 1) k) (fun b => by
      match b with
      | ⟨0, _⟩ => rfl
      | ⟨1, _⟩ => rfl
      | ⟨2, _⟩ => exact hq.symm
      | ⟨3, _⟩ => rfl), val_main_v15_apply, hq,
      show idx_main_v15 (ix4 t i (0 : Fin 1) k) = ix3 t i k from funext fun a => by
        match a with
        | ⟨0, _⟩ => rfl
        | ⟨1, _⟩ => rfl
        | ⟨2, _⟩ => rfl]
    exact low_apply x2 t i k
  · have h1 : q.val = 1 := by have := q.isLt; omega
    rw [concatenate_pair_apply_right (t := S24x1024x2x512) (s₁ := S24x1024x1x512) (s₂ := S24x1024x1x512) 2 _ _ _ (ix4 t i q k) rfl rfl (ix4 t i (0 : Fin 1) k) (fun b hb => by
      match b, hb with
      | ⟨0, _⟩, _ => rfl
      | ⟨1, _⟩, _ => rfl
      | ⟨2, _⟩, hb => exact absurd rfl hb
      | ⟨3, _⟩, _ => rfl) (by show 0 + 1 = q.val; omega), val_main_v16_apply, h1,
      show idx_main_v16 (ix4 t i (0 : Fin 1) k) = ix3 t i k from funext fun a => by
        match a with
        | ⟨0, _⟩ => rfl
        | ⟨1, _⟩ => rfl
        | ⟨2, _⟩ => rfl]
    exact high_apply x2 t i k

theorem u0L_apply (i c : Fin 1024) : val_main_v29 (F := Ideal) x2 x3 (ix3 t i c) = decL x2 x3 t c i := by
  have hi := i.isLt
  have hc := c.isLt
  have ht := t.isLt
  have e28 : idx_main_v28 (ix3 t i c) = ix4 t i (⟨c.val / 64, by omega⟩ : Fin 16) (⟨c.val % 64, by omega⟩ : Fin 64) := by
    funext a
    apply Fin.ext
    match a with
    | ⟨0, _⟩ => show ((t.val * 1024 + i.val) * 1024 + c.val) / 1048576 = t.val; omega
    | ⟨1, _⟩ => show ((t.val * 1024 + i.val) * 1024 + c.val) / 1024 % 1024 = i.val; omega
    | ⟨2, _⟩ => show ((t.val * 1024 + i.val) * 1024 + c.val) / 64 % 16 = c.val / 64; omega
    | ⟨3, _⟩ => show ((t.val * 1024 + i.val) * 1024 + c.val) % 64 = c.val % 64; omega
  have e20 : idx_main_v20 (ix4 t i (⟨c.val / 64, by omega⟩ : Fin 16) (⟨c.val % 64, by omega⟩ : Fin 64)) = ix3 t i c := by
    funext a
    apply Fin.ext
    match a with
    | ⟨0, _⟩ => show (((t.val * 1024 + i.val) * 16 + c.val / 64) * 64 + c.val % 64) / 1048576 = t.val; omega
    | ⟨1, _⟩ => show (((t.val * 1024 + i.val) * 16 + c.val / 64) * 64 + c.val % 64) / 1024 % 1024 = i.val; omega
    | ⟨2, _⟩ => show (((t.val * 1024 + i.val) * 16 + c.val / 64) * 64 + c.val % 64) % 1024 = c.val; omega
  have e18 : idx_main_v18 (ix3 t i c) = ix4 t i (⟨c.val / 512, by omega⟩ : Fin 2) (⟨c.val % 512, by omega⟩ : Fin 512) := by
    funext a
    apply Fin.ext
    match a with
    | ⟨0, _⟩ => show ((t.val * 1024 + i.val) * 1024 + c.val) / 1048576 = t.val; omega
    | ⟨1, _⟩ => show ((t.val * 1024 + i.val) * 1024 + c.val) / 1024 % 1024 = i.val; omega
    | ⟨2, _⟩ => show ((t.val * 1024 + i.val) * 1024 + c.val) / 512 % 2 = c.val / 512; omega
    | ⟨3, _⟩ => show ((t.val * 1024 + i.val) * 1024 + c.val) % 512 = c.val % 512; omega
  rw [val_main_v29_apply, val_main_v28_apply, e28, val_main_v27_apply, val_main_v24_apply, val_main_v22_apply, val_main_v21_apply, val_main_v20_apply,
    e20, val_main_v19_apply, val_main_v18_apply, e18, stack_apply, val_main_v23_apply, val_main_cst_apply, val_main_v26_apply, val_main_v25_apply,
    show idx_main_v25 (idx_main_v26 (ix4 t i (⟨c.val / 64, by omega⟩ : Fin 16) (⟨c.val % 64, by omega⟩ : Fin 64)))
      = ix3 t i (⟨c.val / 64, by omega⟩ : Fin 16) from funext fun a => by
      match a with
      | ⟨0, _⟩ => rfl
      | ⟨1, _⟩ => rfl
      | ⟨2, _⟩ => rfl]
  exact div49_mul (ssq (nib (x2 (ix3 t i (⟨c.val % 512, by omega⟩ : Fin 512))) (c.val / 512))) (x3 (ix3 t i (⟨c.val / 64, by omega⟩ : Fin 16)))

theorem gramL_apply (a b : Fin 1024) : val_main_v40 (F := Ideal) x2 x3 (ix3 t a b) = gramE (decL x2 x3 t) a b := by
  rw [val_main_v40_apply, val_main_v39_apply, val_main_v30_apply, val_main_v38_apply, val_main_v37_apply, val_main_v36_apply, val_main_v35_apply,
    val_main_v34_apply, val_main_v31_apply, val_main_v32_apply, val_main_v33_apply, val_main_c_5_apply]
  refine congrArg₂ (fun x y : EReal => x - y) (Finset.sum_congr rfl fun k _ => ?_) ?_
  · exact congrArg₂ (fun x y : EReal => x * y) (u0L_apply x2 x3 t k a) (u0L_apply x2 x3 t k b)
  · refine (eye_apply (a := a.val) (b := b.val) (by have := a.isLt; omega) (by have := b.isLt; omega)).trans ?_
    simp only [Fin.ext_iff]

theorem uL_apply (i c : Fin 1024) : val_main_v46 (F := Ideal) x2 x3 (ix3 t i c) = bjorck (decL x2 x3 t) c i := by
  rw [val_main_v46_apply, val_main_v45_apply, val_main_v42_apply, val_main_v44_apply, val_main_v43_apply, val_main_cst_6_apply, val_main_v41_apply,
    u0L_apply]
  refine congrArg (fun y : EReal => decL x2 x3 t c i - half32 * y) (Finset.sum_congr rfl fun k _ => ?_)
  refine (congrArg₂ (fun x y : EReal => x * y) (u0L_apply x2 x3 t i k) (gramL_apply x2 x3 t k c)).trans ?_
  rw [gramE_comm, mul_comm]

theorem rootL_apply (x4 : (⟨S24x1024, .f32⟩ : BufTy).Contents (Elt Ideal)) (j : Fin 1024)
    (h : 0 < x4 (ix2 t j) + Ideal.ofBits .f32 0x38D1B717#32) : val_main_v50 (F := Ideal) x4 (ix2 t j) = root (x4 (ix2 t j)) := by
  rw [val_main_v50_apply, val_main_v48_apply, val_main_v47_apply, val_main_v49_apply, val_main_cst_7_apply, val_main_cst_8_apply]
  exact rsqrt_sqrt_eq_pow _ h

end Left

/-! ## The right basis -/

section Right
variable (x5 : (⟨S24x1152x576, .i8⟩ : BufTy).Contents (Elt Ideal)) (x6 : (⟨S24x1152x18, .f32⟩ : BufTy).Contents (Elt Ideal))
variable (t : Fin 24)

/-- The decoded right basis of one element of the batch. -/
abbrev decR : Fin 1152 → Fin 1152 → EReal :=
  dec (n := 1152) (half := 576) (ng := 18) rfl rfl (fun i k => x5 (ix3 t i k)) (fun i g => x6 (ix3 t i g))

theorem lowR_apply (i : Fin 1152) (k : Fin 576) : val_main_v58 (F := Ideal) x5 (ix3 t i k) = nib (x5 (ix3 t i k)) 0 := by
  rw [val_main_v58_apply, val_main_v55_apply, val_main_v57_apply, val_main_v53_apply, val_main_v51_apply, val_main_v52_apply, val_main_v54_apply,
    val_main_v56_apply, val_main_c_9_apply, val_main_c_10_apply, val_main_c_11_apply]
  exact nib_low _

theorem highR_apply (i : Fin 1152) (k : Fin 576) : val_main_v65 (F := Ideal) x5 (ix3 t i k) = nib (x5 (ix3 t i k)) 1 := by
  rw [val_main_v65_apply, val_main_v62_apply, val_main_v64_apply, val_main_v60_apply, val_main_v51_apply, val_main_v59_apply, val_main_v61_apply,
    val_main_v63_apply, val_main_c_12_apply, val_main_c_13_apply, val_main_c_14_apply]
  exact nib_high _

theorem stackR_apply (i : Fin 1152) (q : Fin 2) (k : Fin 576) :
    val_main_v68 (F := Ideal) x5 (ix4 t i q k) = nib (x5 (ix3 t i k)) q.val := by
  unfold val_main_v68
  by_cases hq : q.val = 0
  · rw [concatenate_pair_apply_left (t := S24x1152x2x576) (s₁ := S24x1152x1x576) (s₂ := S24x1152x1x576) 2 _ _ _ (ix4 t i q k) rfl (ix4 t i (0 : Fin 1) k) (fun b => by
      match b with
      | ⟨0, _⟩ => rfl
      | ⟨1, _⟩ => rfl
      | ⟨2, _⟩ => exact hq.symm
      | ⟨3, _⟩ => rfl), val_main_v66_apply, hq,
      show idx_main_v66 (ix4 t i (0 : Fin 1) k) = ix3 t i k from funext fun a => by
        match a with
        | ⟨0, _⟩ => rfl
        | ⟨1, _⟩ => rfl
        | ⟨2, _⟩ => rfl]
    exact lowR_apply x5 t i k
  · have h1 : q.val = 1 := by have := q.isLt; omega
    rw [concatenate_pair_apply_right (t := S24x1152x2x576) (s₁ := S24x1152x1x576) (s₂ := S24x1152x1x576) 2 _ _ _ (ix4 t i q k) rfl rfl (ix4 t i (0 : Fin 1) k) (fun b hb => by
      match b, hb with
      | ⟨0, _⟩, _ => rfl
      | ⟨1, _⟩, _ => rfl
      | ⟨2, _⟩, hb => exact absurd rfl hb
      | ⟨3, _⟩, _ => rfl) (by show 0 + 1 = q.val; omega), val_main_v67_apply, h1,
      show idx_main_v67 (ix4 t i (0 : Fin 1) k) = ix3 t i k from funext fun a => by
        match a with
        | ⟨0, _⟩ => rfl
        | ⟨1, _⟩ => rfl
        | ⟨2, _⟩ => rfl]
    exact highR_apply x5 t i k

theorem u0R_apply (i c : Fin 1152) : val_main_v80 (F := Ideal) x5 x6 (ix3 t i c) = decR x5 x6 t c i := by
  have hi := i.isLt
  have hc := c.isLt
  have ht := t.isLt
  have e79 : idx_main_v79 (ix3 t i c) = ix4 t i (⟨c.val / 64, by omega⟩ : Fin 18) (⟨c.val % 64, by omega⟩ : Fin 64) := by
    funext a
    apply Fin.ext
    match a with
    | ⟨0, _⟩ => show ((t.val * 1152 + i.val) * 1152 + c.val) / 1327104 = t.val; omega
    | ⟨1, _⟩ => show ((t.val * 1152 + i.val) * 1152 + c.val) / 1152 % 1152 = i.val; omega
    | ⟨2, _⟩ => show ((t.val * 1152 + i.val) * 1152 + c.val) / 64 % 18 = c.val / 64; omega
    | ⟨3, _⟩ => show ((t.val * 1152 + i.val) * 1152 + c.val) % 64 = c.val % 64; omega
  have e71 : idx_main_v71 (ix4 t i (⟨c.val / 64, by omega⟩ : Fin 18) (⟨c.val % 64, by omega⟩ : Fin 64)) = ix3 t i c := by
    funext a
    apply Fin.ext
    match a with
    | ⟨0, _⟩ => show (((t.val * 1152 + i.val) * 18 + c.val / 64) * 64 + c.val % 64) / 1327104 = t.val; omega
    | ⟨1, _⟩ => show (((t.val * 1152 + i.val) * 18 + c.val / 64) * 64 + c.val % 64) / 1152 % 1152 = i.val; omega
    | ⟨2, _⟩ => show (((t.val * 1152 + i.val) * 18 + c.val / 64) * 64 + c.val % 64) % 1152 = c.val; omega
  have e69 : idx_main_v69 (ix3 t i c) = ix4 t i (⟨c.val / 576, by omega⟩ : Fin 2) (⟨c.val % 576, by omega⟩ : Fin 576) := by
    funext a
    apply Fin.ext
    match a with
    | ⟨0, _⟩ => show ((t.val * 1152 + i.val) * 1152 + c.val) / 1327104 = t.val; omega
    | ⟨1, _⟩ => show ((t.val * 1152 + i.val) * 1152 + c.val) / 1152 % 1152 = i.val; omega
    | ⟨2, _⟩ => show ((t.val * 1152 + i.val) * 1152 + c.val) / 576 % 2 = c.val / 576; omega
    | ⟨3, _⟩ => show ((t.val * 1152 + i.val) * 1152 + c.val) % 576 = c.val % 576; omega
  rw [val_main_v80_apply, val_main_v79_apply, e79, val_main_v78_apply, val_main_v75_apply, val_main_v73_apply, val_main_v72_apply, val_main_v71_apply,
    e71, val_main_v70_apply, val_main_v69_apply, e69, stackR_apply, val_main_v74_apply, val_main_cst_15_apply, val_main_v77_apply, val_main_v76_apply,
    show idx_main_v76 (idx_main_v77 (ix4 t i (⟨c.val / 64, by omega⟩ : Fin 18) (⟨c.val % 64, by omega⟩ : Fin 64)))
      = ix3 t i (⟨c.val / 64, by omega⟩ : Fin 18) from funext fun a => by
      match a with
      | ⟨0, _⟩ => rfl
      | ⟨1, _⟩ => rfl
      | ⟨2, _⟩ => rfl]
  exact div49_mul (ssq (nib (x5 (ix3 t i (⟨c.val % 576, by omega⟩ : Fin 576))) (c.val / 576))) (x6 (ix3 t i (⟨c.val / 64, by omega⟩ : Fin 18)))

theorem gramR_apply (a b : Fin 1152) : val_main_v91 (F := Ideal) x5 x6 (ix3 t a b) = gramE (decR x5 x6 t) a b := by
  rw [val_main_v91_apply, val_main_v90_apply, val_main_v81_apply, val_main_v89_apply, val_main_v88_apply, val_main_v87_apply, val_main_v86_apply,
    val_main_v85_apply, val_main_v82_apply, val_main_v83_apply, val_main_v84_apply, val_main_c_16_apply]
  refine congrArg₂ (fun x y : EReal => x - y) (Finset.sum_congr rfl fun k _ => ?_) ?_
  · exact congrArg₂ (fun x y : EReal => x * y) (u0R_apply x5 x6 t k a) (u0R_apply x5 x6 t k b)
  · refine (eye_apply (a := a.val) (b := b.val) (by have := a.isLt; omega) (by have := b.isLt; omega)).trans ?_
    simp only [Fin.ext_iff]

theorem uR_apply (i c : Fin 1152) : val_main_v97 (F := Ideal) x5 x6 (ix3 t i c) = bjorck (decR x5 x6 t) c i := by
  rw [val_main_v97_apply, val_main_v96_apply, val_main_v93_apply, val_main_v95_apply, val_main_v94_apply, val_main_cst_17_apply, val_main_v92_apply,
    u0R_apply]
  refine congrArg (fun y : EReal => decR x5 x6 t c i - half32 * y) (Finset.sum_congr rfl fun k _ => ?_)
  refine (congrArg₂ (fun x y : EReal => x * y) (u0R_apply x5 x6 t i k) (gramR_apply x5 x6 t k c)).trans ?_
  rw [gramE_comm, mul_comm]

theorem rootR_apply (x7 : (⟨S24x1152, .f32⟩ : BufTy).Contents (Elt Ideal)) (j : Fin 1152)
    (h : 0 < x7 (ix2 t j) + Ideal.ofBits .f32 0x38D1B717#32) : val_main_v101 (F := Ideal) x7 (ix2 t j) = root (x7 (ix2 t j)) := by
  rw [val_main_v101_apply, val_main_v99_apply, val_main_v98_apply, val_main_v100_apply, val_main_cst_18_apply, val_main_cst_19_apply]
  exact rsqrt_sqrt_eq_pow _ h

end Right

end Cert.ReferenceIdeal.Value

end
-- ==== Proof.Value.Ref.lean ====
/-
  What the reference returns, element by element, under the positive shifted spectrum.
-/
module

public import proofs.«01_k».proof.Proof.Value.RefCore

@[expose] public section

set_option maxRecDepth 8192

noncomputable section

open scoped BigOperators

namespace Cert.ReferenceIdeal.Value

open Cert.ReferenceIdeal Cert.ReferenceIdeal.Gen Cert.ReferenceIdeal.Read Idealize.ShloMosaic Idealize.ShloMosaic.ValueIdx Shampoo

/-- The host's sum over the last two axes of three, from the zero initial value: the double sum. -/
theorem sum_last_two (x : S24x1024x1152.Idx → EReal) (t : Fin 24) :
    Ideal.hostReduceAdd reducesTo_S24x1024x1152_S24_d1_2 x (Ideal.ofBits .f32 0x00000000#32) (ix1 t)
      = ∑ i : Fin 1024, ∑ c : Fin 1152, x (ix3 t i c) := by
  unfold Ideal.hostReduceAdd
  rw [Ideal.ofBits_zero_f32, zero_add]
  refine Eq.trans ?_ (Fintype.sum_prod_type (f := fun p : Fin 1024 × Fin 1152 => x (ix3 t p.1 p.2)))
  have h0 : ∀ i : S24x1024x1152.Idx, (reducesTo_S24x1024x1152_S24_d1_2.drop i 0).val = (i 0).val :=
    fun i => Shape.ReducesTo.drop_apply_val_of_eq _ i 0 0
  refine Finset.sum_bij' (fun i _ => ((i 1, i 2) : Fin 1024 × Fin 1152)) (fun p _ => ix3 t p.1 p.2) ?_
    (fun p _ => ?_) (fun i hi => ?_) (fun p _ => rfl) (fun i hi => ?_)
  · intro i _; simp only [Finset.mem_univ]
  · rw [Finset.mem_filter]
    refine ⟨Finset.mem_univ _, funext fun a => Fin.ext ?_⟩
    match a with
    | ⟨0, _⟩ => exact h0 _
  all_goals
    have e := congrFun (Finset.mem_filter.mp hi).2 0
    have e0 : (i 0).val = t.val := (h0 i).symm.trans (congrArg Fin.val e)
  · funext a
    match a with
    | ⟨0, _⟩ => exact Fin.ext e0.symm
    | ⟨1, _⟩ => rfl
    | ⟨2, _⟩ => rfl
  · refine congrArg x (funext fun a => ?_)
    match a with
    | ⟨0, _⟩ => exact Fin.ext e0
    | ⟨1, _⟩ => rfl
    | ⟨2, _⟩ => rfl

variable (x0 : (⟨S24x1024x1152, .bf16⟩ : BufTy).Contents (Elt Ideal)) (x1 : (⟨S24x1024x1152, .f32⟩ : BufTy).Contents (Elt Ideal))
variable (x2 : (⟨S24x1024x512, .i8⟩ : BufTy).Contents (Elt Ideal)) (x3 : (⟨S24x1024x16, .f32⟩ : BufTy).Contents (Elt Ideal))
variable (x4 : (⟨S24x1024, .f32⟩ : BufTy).Contents (Elt Ideal))
variable (x5 : (⟨S24x1152x576, .i8⟩ : BufTy).Contents (Elt Ideal)) (x6 : (⟨S24x1152x18, .f32⟩ : BufTy).Contents (Elt Ideal))
variable (x7 : (⟨S24x1152, .f32⟩ : BufTy).Contents (Elt Ideal))
variable (t : Fin 24)

/-- The diagonally scaled gradient of one element of the batch. -/
abbrev adaAt : Fin 1024 → Fin 1152 → EReal := fun i c => adaOf (x0 (ix3 t i c)) (x1 (ix3 t i c))

/-- The preconditioned gradient of one element of the batch. -/
abbrev pAt : Fin 1024 → Fin 1152 → EReal :=
  precond (bjorck (decL x2 x3 t)) (bjorck (decR x5 x6 t)) (fun i c => x0 (ix3 t i c)) (fun j => x4 (ix2 t j)) (fun j => x7 (ix2 t j))

theorem ada_apply (i : Fin 1024) (c : Fin 1152) : val_main_v119 (F := Ideal) x0 x1 (ix3 t i c) = adaAt x0 x1 t i c := by
  rw [val_main_v119_apply, val_main_v115_apply, val_main_v118_apply, val_main_v116_apply, val_main_v117_apply, val_main_cst_20_apply]
  rfl

variable (hl : ∀ j, 0 < x4 (ix2 t j) + Ideal.ofBits .f32 0x38D1B717#32) (hr : ∀ j, 0 < x7 (ix2 t j) + Ideal.ofBits .f32 0x38D1B717#32)

include hl in
theorem t1_apply (j : Fin 1024) (c : Fin 1152) : val_main_v106 (F := Ideal) x0 x2 x3 x4 (ix3 t j c)
    = t1 (bjorck (decL x2 x3 t)) (fun i c => x0 (ix3 t i c)) (fun j => x4 (ix2 t j)) c j := by
  have e1 : ∀ i, lidx_main_v102 (ix3 t j c) i = ix3 t i j := fun i => (eq_ix3 _).trans rfl
  have e2 : ∀ i, ridx_main_v102 (ix3 t j c) i = ix3 t i c := fun i => (eq_ix3 _).trans rfl
  have e3 : idx_main_v103 (idx_main_v104 (ix3 t j c)) = ix2 t j := (eq_ix2 _).trans rfl
  rw [val_main_v106_apply, val_main_v105_apply, val_main_v102_apply, val_main_v104_apply, val_main_v103_apply, e3]
  refine congrArg₂ (fun x y : EReal => x * y) (Finset.sum_congr rfl fun i _ => ?_) (rootL_apply t x4 j (hl j))
  rw [e1, e2, uL_apply x2 x3 t i j]
  exact mul_comm _ _

include hl hr in
theorem t2_apply (j : Fin 1024) (e : Fin 1152) : val_main_v111 (F := Ideal) x0 x2 x3 x4 x5 x6 x7 (ix3 t j e)
    = t2 (bjorck (decR x5 x6 t)) (t1 (bjorck (decL x2 x3 t)) (fun i c => x0 (ix3 t i c)) (fun j => x4 (ix2 t j))) (fun j => x7 (ix2 t j)) e j := by
  have e1 : ∀ c, lidx_main_v107 (ix3 t j e) c = ix3 t j c := fun c => (eq_ix3 _).trans rfl
  have e2 : ∀ c, ridx_main_v107 (ix3 t j e) c = ix3 t c e := fun c => (eq_ix3 _).trans rfl
  have e3 : idx_main_v108 (idx_main_v109 (ix3 t j e)) = ix2 t e := (eq_ix2 _).trans rfl
  rw [val_main_v111_apply, val_main_v110_apply, val_main_v107_apply, val_main_v109_apply, val_main_v108_apply, e3]
  refine congrArg₂ (fun x y : EReal => x * y) (Finset.sum_congr rfl fun c _ => ?_) (rootR_apply t x7 e (hr e))
  rw [e1, e2, t1_apply x0 x2 x3 x4 t hl j c, uR_apply x5 x6 t c e]
  exact mul_comm _ _

include hl hr in
theorem t3_apply (i : Fin 1024) (e : Fin 1152) : val_main_v113 (F := Ideal) x0 x2 x3 x4 x5 x6 x7 (ix3 t i e)
    = t3 (bjorck (decL x2 x3 t)) (t2 (bjorck (decR x5 x6 t)) (t1 (bjorck (decL x2 x3 t)) (fun i c => x0 (ix3 t i c)) (fun j => x4 (ix2 t j)))
      (fun j => x7 (ix2 t j))) e i := by
  have e1 : ∀ j, lidx_main_v112 (ix3 t i e) j = ix3 t i j := fun j => (eq_ix3 _).trans rfl
  have e2 : ∀ j, ridx_main_v112 (ix3 t i e) j = ix3 t j e := fun j => (eq_ix3 _).trans rfl
  rw [val_main_v113_apply, val_main_v112_apply]
  refine Finset.sum_congr rfl fun j _ => ?_
  rw [e1, e2, uL_apply x2 x3 t i j, t2_apply x0 x2 x3 x4 x5 x6 x7 t hl hr j e]
  exact mul_comm _ _

include hl hr in
theorem p_apply (i : Fin 1024) (c : Fin 1152) : val_main_v114 (F := Ideal) x0 x2 x3 x4 x5 x6 x7 (ix3 t i c)
    = pAt x0 x2 x3 x4 x5 x6 x7 t i c := by
  have e1 : ∀ e, lidx_main_v114 (ix3 t i c) e = ix3 t i e := fun e => (eq_ix3 _).trans rfl
  have e2 : ∀ e, ridx_main_v114 (ix3 t i c) e = ix3 t c e := fun e => (eq_ix3 _).trans rfl
  rw [val_main_v114_apply]
  unfold pAt precond pOf
  refine Finset.sum_congr rfl fun e _ => ?_
  rw [e1, e2, uR_apply x5 x6 t c e, t3_apply x0 x2 x3 x4 x5 x6 x7 t hl hr i e]

theorem adaNorm_apply : val_main_v122 (F := Ideal) x0 x1 (ix1 t) = norm (adaAt x0 x1 t) := by
  rw [val_main_v122_apply]
  refine congrArg Ideal.sqrt ((sum_last_two _ t).trans ?_)
  refine Finset.sum_congr rfl fun i _ => Finset.sum_congr rfl fun c _ => ?_
  rw [val_main_v120_apply, ada_apply]
  rfl

include hl hr in
theorem pNorm_apply : val_main_v125 (F := Ideal) x0 x2 x3 x4 x5 x6 x7 (ix1 t) = norm (pAt x0 x2 x3 x4 x5 x6 x7 t) := by
  rw [val_main_v125_apply]
  refine congrArg Ideal.sqrt ((sum_last_two _ t).trans ?_)
  refine Finset.sum_congr rfl fun i _ => Finset.sum_congr rfl fun c _ => ?_
  rw [val_main_v123_apply, p_apply x0 x2 x3 x4 x5 x6 x7 t hl hr]
  rfl

include hl hr in
/-- The reference's update. -/
theorem update_apply (i : Fin 1024) (c : Fin 1152) : val_main_v129 (F := Ideal) x0 x1 x2 x3 x4 x5 x6 x7 (ix3 t i c)
    = update (pAt x0 x2 x3 x4 x5 x6 x7 t) (adaAt x0 x1 t) i c := by
  have e1 : idx_main_v127 (idx_main_v128 (ix3 t i c)) = ix1 t := (eq_ix1 _).trans rfl
  rw [val_main_v129_apply, val_main_v128_apply, val_main_v127_apply, e1, p_apply x0 x2 x3 x4 x5 x6 x7 t hl hr]
  refine congrArg (fun x : EReal => pAt x0 x2 x3 x4 x5 x6 x7 t i c * x) ?_
  show val_main_v126 (F := Ideal) x0 x1 x2 x3 x4 x5 x6 x7 (ix1 t) = _
  rw [val_main_v126_apply, adaNorm_apply, pNorm_apply x0 x2 x3 x4 x5 x6 x7 t hl hr]
  rfl

end Cert.ReferenceIdeal.Value

end
-- ==== Proof.Value.Arrays.lean ====
/-
  From a grid point's blocks to the arrays: what each window stages is a batch entry of its argument, and the two
  results, block by block, are the reference's mathematics of that entry.
-/
module

public import proofs.«01_k».proof.Proof.Value.Out
public import proofs.«01_k».proof.Proof.Value.Ref
public import proofs.«01_k».proof.Proof.Gen.KernelIdeal.Value
public import Idealize.ShloMosaic.Lib.Pipeline.ValueKit
public import Idealize.ShloMosaic.Lib.Claim
public import Idealize.ShloMosaic.Lib.Pointwise

@[expose] public section

set_option maxRecDepth 16384
set_option maxHeartbeats 1000000

noncomputable section

namespace Cert.KernelIdeal.Value

open Cert.KernelIdeal Cert.KernelIdeal.Gen
open Idealize.ShloMosaic hiding ix1 ix2 ix3
open Idealize.ShloMosaic.ValueIdx Idealize.ShloMosaic.Tactic Shampoo

variable (m : (ℓ : Loc nD τ sig) → Buf (Elt Ideal) ℓ)

/-- Every window's block at point `t` is batch entry `t` (decided over the 24 points). -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] ∧ win0_8.index t = ![t.val, 0, 0] ∧ win0_9.index t = ![t.val, 0, 0] :=
  (by decide +kernel : ∀ t : Fin grid0.N, _)

/-- A grid point as a batch entry. -/
abbrev entry (t : Fin cfg0.N) : Fin 24 := ⟨t.val, (Nat.lt_of_lt_of_eq t.isLt N_0 : t.val < 24)⟩

theorem iblk0 (c : Dev nD) (t : Fin cfg0.N) (i : Fin 1024) (j : Fin 1152) :
    iblk m c 0 t (ix3 (0 : Fin 1) i j) = m (c.tc.loc main_arg0) (ix3 (entry t) i j) := by
  blk_ext! [iblk, V, idx t]

theorem iblk1 (c : Dev nD) (t : Fin cfg0.N) (i : Fin 1024) (j : Fin 1152) :
    iblk m c 1 t (ix3 (0 : Fin 1) i j) = m (c.tc.loc main_arg1) (ix3 (entry t) i j) := by
  blk_ext! [iblk, V, idx t]

theorem iblk2 (c : Dev nD) (t : Fin cfg0.N) (i : Fin 1024) (j : Fin 512) :
    iblk m c 2 t (ix3 (0 : Fin 1) i j) = m (c.tc.loc main_arg2) (ix3 (entry t) i j) := by
  blk_ext! [iblk, V, idx t]

theorem iblk3 (c : Dev nD) (t : Fin cfg0.N) (i : Fin 1024) (j : Fin 16) :
    iblk m c 3 t (ix3 (0 : Fin 1) i j) = m (c.tc.loc main_arg3) (ix3 (entry t) i j) := by
  blk_ext! [iblk, V, idx t]

theorem iblk4 (c : Dev nD) (t : Fin cfg0.N) (j : Fin 1024) :
    iblk m c 4 t (ix3 (0 : Fin 1) (0 : Fin 1) j) = m (c.tc.loc main_arg4) (ix2 (entry t) j) := by
  blk_ext! [iblk, V, idx t]

theorem iblk5 (c : Dev nD) (t : Fin cfg0.N) (i : Fin 1152) (j : Fin 576) :
    iblk m c 5 t (ix3 (0 : Fin 1) i j) = m (c.tc.loc main_arg5) (ix3 (entry t) i j) := by
  blk_ext! [iblk, V, idx t]

theorem iblk6 (c : Dev nD) (t : Fin cfg0.N) (i : Fin 1152) (j : Fin 18) :
    iblk m c 6 t (ix3 (0 : Fin 1) i j) = m (c.tc.loc main_arg6) (ix3 (entry t) i j) := by
  blk_ext! [iblk, V, idx t]

theorem iblk7 (c : Dev nD) (t : Fin cfg0.N) (j : Fin 1152) :
    iblk m c 7 t (ix3 (0 : Fin 1) (0 : Fin 1) j) = m (c.tc.loc main_arg7) (ix2 (entry t) j) := by
  blk_ext! [iblk, V, idx t]

variable (c : Dev nD) (t : Fin cfg0.N)

/-- The adaptive direction of the staged blocks is that of the batch entry. -/
theorem A_eq (i : Fin 1024) (j : Fin 1152) : A (iblk m c 0 t) (iblk m c 1 t) i j
    = Cert.ReferenceIdeal.Value.adaAt (m (c.tc.loc main_arg0)) (m (c.tc.loc main_arg1)) (entry t) i j := by
  have e0 : matOf (α := EReal) (iblk m c 0 t) i j = _ := (matOf_apply (α := EReal) (p := 1024) (q := 1152) (iblk m c 0 t) i j).trans (iblk0 m c t i j)
  have e1 : matOf (α := EReal) (iblk m c 1 t) i j = _ := (matOf_apply (α := EReal) (p := 1024) (q := 1152) (iblk m c 1 t) i j).trans (iblk1 m c t i j)
  exact congrArg₂ adaOf e0 e1

/-- The left basis of the staged blocks, after its correction, is that of the batch entry. -/
theorem UL_eq (a b : Fin 1024) : UL (iblk m c 2 t) (iblk m c 3 t) a b
    = bjorck (Cert.ReferenceIdeal.Value.decL (m (c.tc.loc main_arg2)) (m (c.tc.loc main_arg3)) (entry t)) a b :=
  bjorckN_eq (fun a b => decN_eq rfl rfl
    (fun i k => (matOf_apply (p := 1024) (q := 512) (iblk m c 2 t) i k).trans (iblk2 m c t i k))
    (fun i k => (matOf_apply (α := EReal) (p := 1024) (q := 16) (iblk m c 3 t) i k).trans (iblk3 m c t i k)) a b) a b

/-- And the right one. -/
theorem UR_eq (a b : Fin 1152) : UR (iblk m c 5 t) (iblk m c 6 t) a b
    = bjorck (Cert.ReferenceIdeal.Value.decR (m (c.tc.loc main_arg5)) (m (c.tc.loc main_arg6)) (entry t)) a b :=
  bjorckN_eq (fun a b => decN_eq rfl rfl
    (fun i k => (matOf_apply (p := 1152) (q := 576) (iblk m c 5 t) i k).trans (iblk5 m c t i k))
    (fun i k => (matOf_apply (α := EReal) (p := 1152) (q := 18) (iblk m c 6 t) i k).trans (iblk6 m c t i k)) a b) a b

/-- The preconditioned gradient of the staged blocks is that of the batch entry. -/
theorem P_eq (i : Fin 1024) (j : Fin 1152) :
    P (iblk m c 0 t) (iblk m c 2 t) (iblk m c 3 t) (iblk m c 4 t) (iblk m c 5 t) (iblk m c 6 t) (iblk m c 7 t) i j
    = Cert.ReferenceIdeal.Value.pAt (m (c.tc.loc main_arg0)) (m (c.tc.loc main_arg2)) (m (c.tc.loc main_arg3)) (m (c.tc.loc main_arg4))
        (m (c.tc.loc main_arg5)) (m (c.tc.loc main_arg6)) (m (c.tc.loc main_arg7)) (entry t) i j :=
  pN_eq (UL_eq m c t) (UR_eq m c t)
    (fun a b => (matOf_apply (α := EReal) (p := 1024) (q := 1152) (iblk m c 0 t) a b).trans (iblk0 m c t a b))
    (fun a => (matOf_apply (α := EReal) (p := 1) (q := 1024) (iblk m c 4 t) 0 a).trans (iblk4 m c t a))
    (fun a => (matOf_apply (α := EReal) (p := 1) (q := 1152) (iblk m c 7 t) 0 a).trans (iblk7 m c t a)) i j

/-- The second result is the reference's adaptive direction. -/
theorem final_ada : (dats m 0 c).arrAt 9 cfg0.N
    = Cert.ReferenceIdeal.Read.val_main_v119 (F := Ideal) (m (c.tc.loc main_arg0)) (m (c.tc.loc main_arg1)) := by
  refine (dats m 0 c).arrAt_eq_of_covers 9 _ (by decide +kernel) fun t hf y => ?_
  blk_simp
  rw [after0_9]
  dsimp only [outsAt0]
  rw [ada_block]
  refine (A_eq m c t (y 1) (y 2)).trans ((Cert.ReferenceIdeal.Value.ada_apply (m (c.tc.loc main_arg0)) (m (c.tc.loc main_arg1)) (entry t) (y 1) (y 2)).symm.trans ?_)
  blk_ext! [iblk, V, idx t]

variable (hl : ∀ (t : Fin 24) (j : Fin 1024), (0 : EReal) < (show EReal from m (c.tc.loc main_arg4) (ix2 t j)) + Ideal.ofBits .f32 0x38D1B717#32)
variable (hr : ∀ (t : Fin 24) (j : Fin 1152), (0 : EReal) < (show EReal from m (c.tc.loc main_arg7) (ix2 t j)) + Ideal.ofBits .f32 0x38D1B717#32)

include hl hr in
/-- The first result is the reference's update, both spectra being positive. -/
theorem final_update : (dats m 0 c).arrAt 8 cfg0.N
    = Cert.ReferenceIdeal.Read.val_main_v129 (F := Ideal) (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7)) := by
  refine (dats m 0 c).arrAt_eq_of_covers 8 _ (by decide +kernel) fun t hf y => ?_
  blk_simp
  rw [after0_8]
  dsimp only [outsAt0]
  rw [upd_block, quotient, box_norm (A_eq m c t), box_norm (P_eq m c t)]
  refine Eq.trans ?_ ((Cert.ReferenceIdeal.Value.update_apply (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7)) (entry t) (hl (entry t)) (hr (entry t)) (y 1) (y 2)).symm.trans ?_)
  · refine (if_pos (show (y 1).val < 1024 from (y 1).isLt)).trans ?_
    exact congrArg (fun x : EReal => x * _) (P_eq m c t (y 1) (y 2))
  · blk_ext! [iblk, V, idx t]

end Cert.KernelIdeal.Value

end
-- ==== Proof.lean ====
/-
  The proof of `Cert.Claim`: the three frames, the idealization of the kernel's one named constant, and the equality of
  the idealized kernel's two results with the reference's where both damped spectra are positive.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_positive_spectrum
public import proofs.«01_k».proof.Proof.Gen.KernelIdeal.Value
public import proofs.«01_k».proof.Proof.Gen.ReferenceIdeal.Run
public import proofs.«01_k».proof.Proof.Gen.ReferenceIdeal.Read
public import proofs.«01_k».proof.Proof.Value.Arrays
public import Idealize.ShloMosaic.Lib.Claim
public import Idealize.ShloMosaic.Adequacy
public import Idealize.ShloMosaic.Init

@[expose] public section

set_option maxRecDepth 16384
set_option maxHeartbeats 1000000

noncomputable section

namespace Cert.Proof

open Idealize.ShloMosaic Idealize.SL.Sem

/-- A comparison `x > 0` that reads one says that `x` is positive. -/
theorem pos_of_ogt {x : EReal} (h : Ideal.cmp .ogt x (Ideal.ofBits .f32 0x00000000#32) = 1#1) : 0 < x := by
  rw [Ideal.ofBits_zero_f32] at h
  by_contra hx
  have : Ideal.cmp .ogt x 0 = 0#1 := by simp [Ideal.cmp, hx]
  rw [this] at h
  exact absurd h (by decide)

/-- The kernel: its arguments unchanged, every counter back at zero. -/
theorem frame_kernel [Cert.Kernel.Facts] : Cert.quiescent_Kernel := fun m ρ _ => Cert.Kernel.Gen.frame m ρ

/-- Its idealization, likewise. -/
theorem frame_ideal : Cert.quiescent_KernelIdeal := fun m ρ _ => Cert.KernelIdeal.Gen.frame m ρ

/-- And under the precondition. -/
theorem frame_ideal_pre : Cert.quiescent_KernelIdeal_pre_positive_spectrum := fun m ρ _ => Cert.KernelIdeal.Gen.frame m ρ

/-- The reference's run, read at its arguments; it declares no semaphore. -/
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_ref_pre : Cert.quiescent_ReferenceIdeal_pre_positive_spectrum := fun m ρ _ => frame_ref m ρ trivial

/-- The literal written for 1/49 is the named constant. -/
theorem preserves : Cert.preserves_Kernel_KernelIdeal :=
  IdealRules.named_const.statement Cert.KernelIdeal.κ "inv49" .f32 0x3CA72F05#32 ((1 / 49 : ℝ) : EReal) rfl

/-- Both damped spectra are positive, entry by entry. -/
theorem spectra {m : (ℓ : Loc Cert.KernelIdeal.nD Cert.KernelIdeal.τ Cert.KernelIdeal.sig) → Buf (Elt Ideal) ℓ} (h : Cert.Pre_KernelIdeal_positive_spectrum m)
    (c : Dev Cert.KernelIdeal.nD) :
    (∀ (t : Fin 24) (j : Fin 1024), (0 : EReal) < (show EReal from m (c.tc.loc Cert.KernelIdeal.main_arg4) (ValueIdx.ix2 t j)) + Ideal.ofBits .f32 0x38D1B717#32)
    ∧ ∀ (t : Fin 24) (j : Fin 1152), (0 : EReal) < (show EReal from m (c.tc.loc Cert.KernelIdeal.main_arg7) (ValueIdx.ix2 t j)) + Ideal.ofBits .f32 0x38D1B717#32 :=
  ⟨fun t j => pos_of_ogt (congrFun (h c).1 (ValueIdx.ix2 t j)), fun t j => pos_of_ogt (congrFun (h c).2 (ValueIdx.ix2 t j))⟩

/-- The idealized kernel's results are the reference's. -/
theorem algebraic : Cert.algebraic_KernelIdeal_ReferenceIdeal_pre_positive_spectrum := by
  intro m g m' g' hpre hagree
  refine ⟨fun c => Cert.ReferenceIdeal.Read.val_main_v129 (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
      (m (c.tc.loc Cert.KernelIdeal.main_arg5)) (m (c.tc.loc Cert.KernelIdeal.main_arg6)) (m (c.tc.loc Cert.KernelIdeal.main_arg7)),
    fun c => Cert.ReferenceIdeal.Read.val_main_v119 (F := Ideal) (m (c.tc.loc Cert.KernelIdeal.main_arg0)) (m (c.tc.loc Cert.KernelIdeal.main_arg1)),
    (θ_run _ _ _).mono (fun r h c => ⟨(h c).1.trans (Cert.KernelIdeal.Value.final_update m c (spectra hpre c).1 (spectra hpre c).2),
      (h c).2.1.trans (Cert.KernelIdeal.Value.final_ada m c), (h c).2.2⟩) (Cert.KernelIdeal.Value.run_blocks m g),
    (θ_run _ _ _).mono (fun r h c => ⟨(h c).1.trans ?_, (h c).2.1.trans ?_, (h c).2.2⟩) (Cert.ReferenceIdeal.Value.run m' g')⟩
  · obtain ⟨e0, e1, e2, e3, e4, e5, e6, e7⟩ := hagree c
    refine (Cert.ReferenceIdeal.Read.val_main_v129_eq (F := Ideal) (StableHlo.launchContents m' c)).trans ?_
    beta_reduce
    rw [← e0, ← e1, ← e2, ← e3, ← e4, ← e5, ← e6, ← e7]
  · obtain ⟨e0, e1, -⟩ := hagree c
    refine (Cert.ReferenceIdeal.Read.val_main_v119_eq (F := Ideal) (StableHlo.launchContents m' c)).trans ?_
    beta_reduce
    rw [← e0, ← e1]

theorem claim : Cert.Claim := ⟨Cert.Kernel.Gen.facts, Cert.KernelIdeal.Gen.facts, Cert.ReferenceIdeal.Gen.facts, Cert.Pre_positive_spectrum.Gen.facts,
  frame_kernel, frame_ideal, frame_ideal_pre, frame_ref, frame_ref_pre, preserves, algebraic⟩

end Cert.Proof

end
